-- ==== Defs.lean ====
def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InProjS (m : (ℓ : Loc Cert.InProjS.nD Cert.InProjS.τ Cert.InProjS.sig) → Buf (Elt Bits) ℓ) : Prop :=
  True

def Pre_InProjSIdeal (m : (ℓ : Loc Cert.InProjSIdeal.nD Cert.InProjSIdeal.τ Cert.InProjSIdeal.sig) → Buf (Elt Ideal) ℓ) : Prop :=
  True

def Pre_InRefSIdeal (m : (ℓ : Loc Cert.InRefSIdeal.nD Cert.InRefSIdeal.τ Cert.InRefSIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2 = (fun _ => 1#1)

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSIdeal_ffns_finite [hPre_ffns_finite : Cert.Pre_ffns_finite.Facts] (m : (ℓ : Loc Cert.FfnSIdeal.nD Cert.FfnSIdeal.τ Cert.FfnSIdeal.sig) → Buf (Elt Ideal) ℓ) : Prop :=
  ∀ c : Dev Cert.FfnSIdeal.nD,
    (Cert.Pre_ffns_finite.fn (F := Ideal) (m ((c.tc : Thread Cert.FfnSIdeal.nD Cert.FfnSIdeal.τ).loc Cert.FfnSIdeal.main_arg0)) (m ((c.tc : Thread Cert.FfnSIdeal.nD Cert.FfnSIdeal.τ).loc Cert.FfnSIdeal.main_arg1)) (m ((c.tc : Thread Cert.FfnSIdeal.nD Cert.FfnSIdeal.τ).loc Cert.FfnSIdeal.main_arg2)) (m ((c.tc : Thread Cert.FfnSIdeal.nD Cert.FfnSIdeal.τ).loc Cert.FfnSIdeal.main_arg3)) (m ((c.tc : Thread Cert.FfnSIdeal.nD Cert.FfnSIdeal.τ).loc Cert.FfnSIdeal.main_arg4)) (m ((c.tc : Thread Cert.FfnSIdeal.nD Cert.FfnSIdeal.τ).loc Cert.FfnSIdeal.main_arg5))).1 = (fun _ => 1#1)
    ∧ (Cert.Pre_ffns_finite.fn (F := Ideal) (m ((c.tc : Thread Cert.FfnSIdeal.nD Cert.FfnSIdeal.τ).loc Cert.FfnSIdeal.main_arg0)) (m ((c.tc : Thread Cert.FfnSIdeal.nD Cert.FfnSIdeal.τ).loc Cert.FfnSIdeal.main_arg1)) (m ((c.tc : Thread Cert.FfnSIdeal.nD Cert.FfnSIdeal.τ).loc Cert.FfnSIdeal.main_arg2)) (m ((c.tc : Thread Cert.FfnSIdeal.nD Cert.FfnSIdeal.τ).loc Cert.FfnSIdeal.main_arg3)) (m ((c.tc : Thread Cert.FfnSIdeal.nD Cert.FfnSIdeal.τ).loc Cert.FfnSIdeal.main_arg4)) (m ((c.tc : Thread Cert.FfnSIdeal.nD Cert.FfnSIdeal.τ).loc Cert.FfnSIdeal.main_arg5))).2 = (fun _ => 1#1)

def Pre_FfnRefSIdeal (m : (ℓ : Loc Cert.FfnRefSIdeal.nD Cert.FfnRefSIdeal.τ Cert.FfnRefSIdeal.sig) → Buf (Elt Ideal) ℓ) : Prop :=
  True

def Pre_FfnRefSIdeal_ffns_finite [hPre_ffns_finite : Cert.Pre_ffns_finite.Facts] (m : (ℓ : Loc Cert.FfnRefSIdeal.nD Cert.FfnRefSIdeal.τ Cert.FfnRefSIdeal.sig) → Buf (Elt Ideal) ℓ) : Prop :=
  ∀ c : Dev Cert.FfnRefSIdeal.nD,
    (Cert.Pre_ffns_finite.fn (F := Ideal) (m ((c.tc : Thread Cert.FfnRefSIdeal.nD Cert.FfnRefSIdeal.τ).loc Cert.FfnRefSIdeal.main_arg0)) (m ((c.tc : Thread Cert.FfnRefSIdeal.nD Cert.FfnRefSIdeal.τ).loc Cert.FfnRefSIdeal.main_arg1)) (m ((c.tc : Thread Cert.FfnRefSIdeal.nD Cert.FfnRefSIdeal.τ).loc Cert.FfnRefSIdeal.main_arg2)) (m ((c.tc : Thread Cert.FfnRefSIdeal.nD Cert.FfnRefSIdeal.τ).loc Cert.FfnRefSIdeal.main_arg3)) (m ((c.tc : Thread Cert.FfnRefSIdeal.nD Cert.FfnRefSIdeal.τ).loc Cert.FfnRefSIdeal.main_arg4)) (m ((c.tc : Thread Cert.FfnRefSIdeal.nD Cert.FfnRefSIdeal.τ).loc Cert.FfnRefSIdeal.main_arg5))).1 = (fun _ => 1#1)
    ∧ (Cert.Pre_ffns_finite.fn (F := Ideal) (m ((c.tc : Thread Cert.FfnRefSIdeal.nD Cert.FfnRefSIdeal.τ).loc Cert.FfnRefSIdeal.main_arg0)) (m ((c.tc : Thread Cert.FfnRefSIdeal.nD Cert.FfnRefSIdeal.τ).loc Cert.FfnRefSIdeal.main_arg1)) (m ((c.tc : Thread Cert.FfnRefSIdeal.nD Cert.FfnRefSIdeal.τ).loc Cert.FfnRefSIdeal.main_arg2)) (m ((c.tc : Thread Cert.FfnRefSIdeal.nD Cert.FfnRefSIdeal.τ).loc Cert.FfnRefSIdeal.main_arg3)) (m ((c.tc : Thread Cert.FfnRefSIdeal.nD Cert.FfnRefSIdeal.τ).loc Cert.FfnRefSIdeal.main_arg4)) (m ((c.tc : Thread Cert.FfnRefSIdeal.nD Cert.FfnRefSIdeal.τ).loc Cert.FfnRefSIdeal.main_arg5))).2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvIdeal_conv_finite [hPre_conv_finite : Cert.Pre_conv_finite.Facts] (m : (ℓ : Loc Cert.ConvIdeal.nD Cert.ConvIdeal.τ Cert.ConvIdeal.sig) → Buf (Elt Ideal) ℓ) : Prop :=
  ∀ c : Dev Cert.ConvIdeal.nD,
    (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).2.2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).2.2.2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).2.2.2.2.1 = (fun _ => 1#1)
    ∧ (Cert.Pre_conv_finite.fn (F := Ideal) (m ((c.tc : Thread Cert.ConvIdeal.nD Cert.ConvIdeal.τ).loc Cert.ConvIdeal.main_arg0)) (m ((c.tc : Thread Cert.ConvIdeal.nD Cert.ConvIdeal.τ).loc Cert.ConvIdeal.main_arg1)) (m ((c.tc : Thread Cert.ConvIdeal.nD Cert.ConvIdeal.τ).loc Cert.ConvIdeal.main_arg2)) (m ((c.tc : Thread Cert.ConvIdeal.nD Cert.ConvIdeal.τ).loc Cert.ConvIdeal.main_arg3)) (m ((c.tc : Thread Cert.ConvIdeal.nD Cert.ConvIdeal.τ).loc Cert.ConvIdeal.main_arg4)) (m ((c.tc : Thread Cert.ConvIdeal.nD Cert.ConvIdeal.τ).loc Cert.ConvIdeal.main_arg5))).2.2.2.2.2 = (fun _ => 1#1)

def Pre_ConvRefIdeal (m : (ℓ : Loc Cert.ConvRefIdeal.nD Cert.ConvRefIdeal.τ Cert.ConvRefIdeal.sig) → Buf (Elt Ideal) ℓ) : Prop :=
  True

def Pre_ConvRefIdeal_conv_finite [hPre_conv_finite : Cert.Pre_conv_finite.Facts] (m : (ℓ : Loc Cert.ConvRefIdeal.nD Cert.ConvRefIdeal.τ Cert.ConvRefIdeal.sig) → Buf (Elt Ideal) ℓ) : Prop :=
  ∀ c : Dev Cert.ConvRefIdeal.nD,
    (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.2.2.1 = (fun _ => 1#1)
    ∧ (Cert.Pre_conv_finite.fn (F := Ideal) (m ((c.tc : Thread Cert.ConvRefIdeal.nD Cert.ConvRefIdeal.τ).loc Cert.ConvRefIdeal.main_arg0)) (m ((c.tc : Thread Cert.ConvRefIdeal.nD Cert.ConvRefIdeal.τ).loc Cert.ConvRefIdeal.main_arg1)) (m ((c.tc : Thread Cert.ConvRefIdeal.nD Cert.ConvRefIdeal.τ).loc Cert.ConvRefIdeal.main_arg2)) (m ((c.tc : Thread Cert.ConvRefIdeal.nD Cert.ConvRefIdeal.τ).loc Cert.ConvRefIdeal.main_arg3)) (m ((c.tc : Thread Cert.ConvRefIdeal.nD Cert.ConvRefIdeal.τ).loc Cert.ConvRefIdeal.main_arg4)) (m ((c.tc : Thread Cert.ConvRefIdeal.nD Cert.ConvRefIdeal.τ).loc Cert.ConvRefIdeal.main_arg5))).2.2.2.2.2 = (fun _ => 1#1)

def Pre_ConvP (m : (ℓ : Loc Cert.ConvP.nD Cert.ConvP.τ Cert.ConvP.sig) → Buf (Elt Bits) ℓ) : Prop :=
  True

def Pre_ConvPIdeal (m : (ℓ : Loc Cert.ConvPIdeal.nD Cert.ConvPIdeal.τ Cert.ConvPIdeal.sig) → Buf (Elt Ideal) ℓ) : Prop :=
  True

def Pre_ConvRefPIdeal (m : (ℓ : Loc Cert.ConvRefPIdeal.nD Cert.ConvRefPIdeal.τ Cert.ConvRefPIdeal.sig) → Buf (Elt Ideal) ℓ) : Prop :=
  True

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2))
      ∧ r.2.sem = fun _ => 0)

def quiescent_InProjS [hInProjS : Cert.InProjS.Facts] : Prop :=
  ∀ (m : (ℓ : Loc Cert.InProjS.nD Cert.InProjS.τ Cert.InProjS.sig) → Buf (Elt Bits) ℓ) (g : Dev Cert.InProjS.nD → PrngReg), Pre_InProjS m →
    θ_run (Cert.InProjS.defs (F := Bits)) (onTc (τ := Cert.InProjS.τ) (Cert.InProjS.main (F := Bits))) ⟨m, fun _ => 0, g⟩ (fun r => (∀ c : Dev Cert.InProjS.nD,
      r.2.mem ((c.tc : Thread Cert.InProjS.nD Cert.InProjS.τ).loc Cert.InProjS.main_arg0) = m ((c.tc : Thread Cert.InProjS.nD Cert.InProjS.τ).loc Cert.InProjS.main_arg0)
      ∧ r.2.mem ((c.tc : Thread Cert.InProjS.nD Cert.InProjS.τ).loc Cert.InProjS.main_arg1) = m ((c.tc : Thread Cert.InProjS.nD Cert.InProjS.τ).loc Cert.InProjS.main_arg1)
      ∧ r.2.mem ((c.tc : Thread Cert.InProjS.nD Cert.InProjS.τ).loc Cert.InProjS.main_arg2) = m ((c.tc : Thread Cert.InProjS.nD Cert.InProjS.τ).loc Cert.InProjS.main_arg2))
      ∧ r.2.sem = fun _ => 0)

def quiescent_InProjSIdeal [hInProjSIdeal : Cert.InProjSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg), Pre_InProjSIdeal m →
    θ_run (Cert.InProjSIdeal.defs (F := Ideal)) (onTc (τ := Cert.InProjSIdeal.τ) (Cert.InProjSIdeal.main (F := Ideal))) ⟨m, fun _ => 0, g⟩ (fun r => (∀ c : Dev Cert.InProjSIdeal.nD,
      r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
      ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
      ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ r.2.sem = fun _ => 0)

def quiescent_InRefSIdeal [hInRefSIdeal : Cert.InRefSIdeal.Facts] : Prop :=
  ∀ (m : (ℓ : Loc Cert.InRefSIdeal.nD Cert.InRefSIdeal.τ Cert.InRefSIdeal.sig) → Buf (Elt Ideal) ℓ) (g : Dev Cert.InRefSIdeal.nD → PrngReg), Pre_InRefSIdeal m →
    θ_run (Cert.InRefSIdeal.defs (F := Ideal)) (onTc (τ := Cert.InRefSIdeal.τ) (Cert.InRefSIdeal.main (F := Ideal))) ⟨m, fun _ => 0, g⟩ (fun r => (∀ c : Dev Cert.InRefSIdeal.nD,
      r.2.mem ((c.tc : Thread Cert.InRefSIdeal.nD Cert.InRefSIdeal.τ).loc Cert.InRefSIdeal.main_arg0) = m ((c.tc : Thread Cert.InRefSIdeal.nD Cert.InRefSIdeal.τ).loc Cert.InRefSIdeal.main_arg0)
      ∧ r.2.mem ((c.tc : Thread Cert.InRefSIdeal.nD Cert.InRefSIdeal.τ).loc Cert.InRefSIdeal.main_arg1) = m ((c.tc : Thread Cert.InRefSIdeal.nD Cert.InRefSIdeal.τ).loc Cert.InRefSIdeal.main_arg1)
      ∧ r.2.mem ((c.tc : Thread Cert.InRefSIdeal.nD Cert.InRefSIdeal.τ).loc Cert.InRefSIdeal.main_arg2) = m ((c.tc : Thread Cert.InRefSIdeal.nD Cert.InRefSIdeal.τ).loc Cert.InRefSIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnSIdeal_pre_ffns_finite [hFfnSIdeal : Cert.FfnSIdeal.Facts] [hPre_ffns_finite : Cert.Pre_ffns_finite.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal_ffns_finite m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ r.2.sem = fun _ => 0)

def quiescent_FfnRefSIdeal [hFfnRefSIdeal : Cert.FfnRefSIdeal.Facts] : Prop :=
  ∀ (m : (ℓ : Loc Cert.FfnRefSIdeal.nD Cert.FfnRefSIdeal.τ Cert.FfnRefSIdeal.sig) → Buf (Elt Ideal) ℓ) (g : Dev Cert.FfnRefSIdeal.nD → PrngReg), Pre_FfnRefSIdeal m →
    θ_run (Cert.FfnRefSIdeal.defs (F := Ideal)) (onTc (τ := Cert.FfnRefSIdeal.τ) (Cert.FfnRefSIdeal.main (F := Ideal))) ⟨m, fun _ => 0, g⟩ (fun r => (∀ c : Dev Cert.FfnRefSIdeal.nD,
      r.2.mem ((c.tc : Thread Cert.FfnRefSIdeal.nD Cert.FfnRefSIdeal.τ).loc Cert.FfnRefSIdeal.main_arg0) = m ((c.tc : Thread Cert.FfnRefSIdeal.nD Cert.FfnRefSIdeal.τ).loc Cert.FfnRefSIdeal.main_arg0)
      ∧ r.2.mem ((c.tc : Thread Cert.FfnRefSIdeal.nD Cert.FfnRefSIdeal.τ).loc Cert.FfnRefSIdeal.main_arg1) = m ((c.tc : Thread Cert.FfnRefSIdeal.nD Cert.FfnRefSIdeal.τ).loc Cert.FfnRefSIdeal.main_arg1)
      ∧ r.2.mem ((c.tc : Thread Cert.FfnRefSIdeal.nD Cert.FfnRefSIdeal.τ).loc Cert.FfnRefSIdeal.main_arg2) = m ((c.tc : Thread Cert.FfnRefSIdeal.nD Cert.FfnRefSIdeal.τ).loc Cert.FfnRefSIdeal.main_arg2)
      ∧ r.2.mem ((c.tc : Thread Cert.FfnRefSIdeal.nD Cert.FfnRefSIdeal.τ).loc Cert.FfnRefSIdeal.main_arg3) = m ((c.tc : Thread Cert.FfnRefSIdeal.nD Cert.FfnRefSIdeal.τ).loc Cert.FfnRefSIdeal.main_arg3)
      ∧ r.2.mem ((c.tc : Thread Cert.FfnRefSIdeal.nD Cert.FfnRefSIdeal.τ).loc Cert.FfnRefSIdeal.main_arg4) = m ((c.tc : Thread Cert.FfnRefSIdeal.nD Cert.FfnRefSIdeal.τ).loc Cert.FfnRefSIdeal.main_arg4)
      ∧ r.2.mem ((c.tc : Thread Cert.FfnRefSIdeal.nD Cert.FfnRefSIdeal.τ).loc Cert.FfnRefSIdeal.main_arg5) = m ((c.tc : Thread Cert.FfnRefSIdeal.nD Cert.FfnRefSIdeal.τ).loc Cert.FfnRefSIdeal.main_arg5))
      ∧ r.2.sem = fun _ => 0)

def quiescent_FfnRefSIdeal_pre_ffns_finite [hFfnRefSIdeal : Cert.FfnRefSIdeal.Facts] [hPre_ffns_finite : Cert.Pre_ffns_finite.Facts] : Prop :=
  ∀ (m : (ℓ : Loc Cert.FfnRefSIdeal.nD Cert.FfnRefSIdeal.τ Cert.FfnRefSIdeal.sig) → Buf (Elt Ideal) ℓ) (g : Dev Cert.FfnRefSIdeal.nD → PrngReg), Pre_FfnRefSIdeal_ffns_finite m →
    θ_run (Cert.FfnRefSIdeal.defs (F := Ideal)) (onTc (τ := Cert.FfnRefSIdeal.τ) (Cert.FfnRefSIdeal.main (F := Ideal))) ⟨m, fun _ => 0, g⟩ (fun r => (∀ c : Dev Cert.FfnRefSIdeal.nD,
      r.2.mem ((c.tc : Thread Cert.FfnRefSIdeal.nD Cert.FfnRefSIdeal.τ).loc Cert.FfnRefSIdeal.main_arg0) = m ((c.tc : Thread Cert.FfnRefSIdeal.nD Cert.FfnRefSIdeal.τ).loc Cert.FfnRefSIdeal.main_arg0)
      ∧ r.2.mem ((c.tc : Thread Cert.FfnRefSIdeal.nD Cert.FfnRefSIdeal.τ).loc Cert.FfnRefSIdeal.main_arg1) = m ((c.tc : Thread Cert.FfnRefSIdeal.nD Cert.FfnRefSIdeal.τ).loc Cert.FfnRefSIdeal.main_arg1)
      ∧ r.2.mem ((c.tc : Thread Cert.FfnRefSIdeal.nD Cert.FfnRefSIdeal.τ).loc Cert.FfnRefSIdeal.main_arg2) = m ((c.tc : Thread Cert.FfnRefSIdeal.nD Cert.FfnRefSIdeal.τ).loc Cert.FfnRefSIdeal.main_arg2)
      ∧ r.2.mem ((c.tc : Thread Cert.FfnRefSIdeal.nD Cert.FfnRefSIdeal.τ).loc Cert.FfnRefSIdeal.main_arg3) = m ((c.tc : Thread Cert.FfnRefSIdeal.nD Cert.FfnRefSIdeal.τ).loc Cert.FfnRefSIdeal.main_arg3)
      ∧ r.2.mem ((c.tc : Thread Cert.FfnRefSIdeal.nD Cert.FfnRefSIdeal.τ).loc Cert.FfnRefSIdeal.main_arg4) = m ((c.tc : Thread Cert.FfnRefSIdeal.nD Cert.FfnRefSIdeal.τ).loc Cert.FfnRefSIdeal.main_arg4)
      ∧ r.2.mem ((c.tc : Thread Cert.FfnRefSIdeal.nD Cert.FfnRefSIdeal.τ).loc Cert.FfnRefSIdeal.main_arg5) = m ((c.tc : Thread Cert.FfnRefSIdeal.nD Cert.FfnRefSIdeal.τ).loc Cert.FfnRefSIdeal.main_arg5))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvIdeal_pre_conv_finite [hConvIdeal : Cert.ConvIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal_conv_finite m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_ConvRefIdeal_pre_conv_finite [hConvRefIdeal : Cert.ConvRefIdeal.Facts] [hPre_conv_finite : Cert.Pre_conv_finite.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal_conv_finite m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_ConvP [hConvP : Cert.ConvP.Facts] : Prop :=
  ∀ (m : (ℓ : Loc Cert.ConvP.nD Cert.ConvP.τ Cert.ConvP.sig) → Buf (Elt Bits) ℓ) (g : Dev Cert.ConvP.nD → PrngReg), Pre_ConvP m →
    θ_run (Cert.ConvP.defs (F := Bits)) (onTc (τ := Cert.ConvP.τ) (Cert.ConvP.main (F := Bits))) ⟨m, fun _ => 0, g⟩ (fun r => (∀ c : Dev Cert.ConvP.nD,
      r.2.mem ((c.tc : Thread Cert.ConvP.nD Cert.ConvP.τ).loc Cert.ConvP.main_arg0) = m ((c.tc : Thread Cert.ConvP.nD Cert.ConvP.τ).loc Cert.ConvP.main_arg0)
      ∧ r.2.mem ((c.tc : Thread Cert.ConvP.nD Cert.ConvP.τ).loc Cert.ConvP.main_arg1) = m ((c.tc : Thread Cert.ConvP.nD Cert.ConvP.τ).loc Cert.ConvP.main_arg1)
      ∧ r.2.mem ((c.tc : Thread Cert.ConvP.nD Cert.ConvP.τ).loc Cert.ConvP.main_arg2) = m ((c.tc : Thread Cert.ConvP.nD Cert.ConvP.τ).loc Cert.ConvP.main_arg2)
      ∧ r.2.mem ((c.tc : Thread Cert.ConvP.nD Cert.ConvP.τ).loc Cert.ConvP.main_arg3) = m ((c.tc : Thread Cert.ConvP.nD Cert.ConvP.τ).loc Cert.ConvP.main_arg3)
      ∧ r.2.mem ((c.tc : Thread Cert.ConvP.nD Cert.ConvP.τ).loc Cert.ConvP.main_arg4) = m ((c.tc : Thread Cert.ConvP.nD Cert.ConvP.τ).loc Cert.ConvP.main_arg4)
      ∧ r.2.mem ((c.tc : Thread Cert.ConvP.nD Cert.ConvP.τ).loc Cert.ConvP.main_arg5) = m ((c.tc : Thread Cert.ConvP.nD Cert.ConvP.τ).loc Cert.ConvP.main_arg5)
      ∧ r.2.mem ((c.tc : Thread Cert.ConvP.nD Cert.ConvP.τ).loc Cert.ConvP.main_arg6) = m ((c.tc : Thread Cert.ConvP.nD Cert.ConvP.τ).loc Cert.ConvP.main_arg6)
      ∧ r.2.mem ((c.tc : Thread Cert.ConvP.nD Cert.ConvP.τ).loc Cert.ConvP.main_arg7) = m ((c.tc : Thread Cert.ConvP.nD Cert.ConvP.τ).loc Cert.ConvP.main_arg7)
      ∧ r.2.mem ((c.tc : Thread Cert.ConvP.nD Cert.ConvP.τ).loc Cert.ConvP.main_arg8) = m ((c.tc : Thread Cert.ConvP.nD Cert.ConvP.τ).loc Cert.ConvP.main_arg8)
      ∧ r.2.mem ((c.tc : Thread Cert.ConvP.nD Cert.ConvP.τ).loc Cert.ConvP.main_arg9) = m ((c.tc : Thread Cert.ConvP.nD Cert.ConvP.τ).loc Cert.ConvP.main_arg9))
      ∧ r.2.sem = fun _ => 0)

def quiescent_ConvPIdeal [hConvPIdeal : Cert.ConvPIdeal.Facts] : Prop :=
  ∀ (m : (ℓ : Loc Cert.ConvPIdeal.nD Cert.ConvPIdeal.τ Cert.ConvPIdeal.sig) → Buf (Elt Ideal) ℓ) (g : Dev Cert.ConvPIdeal.nD → PrngReg), Pre_ConvPIdeal m →
    θ_run (Cert.ConvPIdeal.defs (F := Ideal)) (onTc (τ := Cert.ConvPIdeal.τ) (Cert.ConvPIdeal.main (F := Ideal))) ⟨m, fun _ => 0, g⟩ (fun r => (∀ c : Dev Cert.ConvPIdeal.nD,
      r.2.mem ((c.tc : Thread Cert.ConvPIdeal.nD Cert.ConvPIdeal.τ).loc Cert.ConvPIdeal.main_arg0) = m ((c.tc : Thread Cert.ConvPIdeal.nD Cert.ConvPIdeal.τ).loc Cert.ConvPIdeal.main_arg0)
      ∧ r.2.mem ((c.tc : Thread Cert.ConvPIdeal.nD Cert.ConvPIdeal.τ).loc Cert.ConvPIdeal.main_arg1) = m ((c.tc : Thread Cert.ConvPIdeal.nD Cert.ConvPIdeal.τ).loc Cert.ConvPIdeal.main_arg1)
      ∧ r.2.mem ((c.tc : Thread Cert.ConvPIdeal.nD Cert.ConvPIdeal.τ).loc Cert.ConvPIdeal.main_arg2) = m ((c.tc : Thread Cert.ConvPIdeal.nD Cert.ConvPIdeal.τ).loc Cert.ConvPIdeal.main_arg2)
      ∧ r.2.mem ((c.tc : Thread Cert.ConvPIdeal.nD Cert.ConvPIdeal.τ).loc Cert.ConvPIdeal.main_arg3) = m ((c.tc : Thread Cert.ConvPIdeal.nD Cert.ConvPIdeal.τ).loc Cert.ConvPIdeal.main_arg3)
      ∧ r.2.mem ((c.tc : Thread Cert.ConvPIdeal.nD Cert.ConvPIdeal.τ).loc Cert.ConvPIdeal.main_arg4) = m ((c.tc : Thread Cert.ConvPIdeal.nD Cert.ConvPIdeal.τ).loc Cert.ConvPIdeal.main_arg4)
      ∧ r.2.mem ((c.tc : Thread Cert.ConvPIdeal.nD Cert.ConvPIdeal.τ).loc Cert.ConvPIdeal.main_arg5) = m ((c.tc : Thread Cert.ConvPIdeal.nD Cert.ConvPIdeal.τ).loc Cert.ConvPIdeal.main_arg5)
      ∧ r.2.mem ((c.tc : Thread Cert.ConvPIdeal.nD Cert.ConvPIdeal.τ).loc Cert.ConvPIdeal.main_arg6) = m ((c.tc : Thread Cert.ConvPIdeal.nD Cert.ConvPIdeal.τ).loc Cert.ConvPIdeal.main_arg6)
      ∧ r.2.mem ((c.tc : Thread Cert.ConvPIdeal.nD Cert.ConvPIdeal.τ).loc Cert.ConvPIdeal.main_arg7) = m ((c.tc : Thread Cert.ConvPIdeal.nD Cert.ConvPIdeal.τ).loc Cert.ConvPIdeal.main_arg7)
      ∧ r.2.mem ((c.tc : Thread Cert.ConvPIdeal.nD Cert.ConvPIdeal.τ).loc Cert.ConvPIdeal.main_arg8) = m ((c.tc : Thread Cert.ConvPIdeal.nD Cert.ConvPIdeal.τ).loc Cert.ConvPIdeal.main_arg8)
      ∧ r.2.mem ((c.tc : Thread Cert.ConvPIdeal.nD Cert.ConvPIdeal.τ).loc Cert.ConvPIdeal.main_arg9) = m ((c.tc : Thread Cert.ConvPIdeal.nD Cert.ConvPIdeal.τ).loc Cert.ConvPIdeal.main_arg9))
      ∧ r.2.sem = fun _ => 0)

def quiescent_ConvRefPIdeal [hConvRefPIdeal : Cert.ConvRefPIdeal.Facts] : Prop :=
  ∀ (m : (ℓ : Loc Cert.ConvRefPIdeal.nD Cert.ConvRefPIdeal.τ Cert.ConvRefPIdeal.sig) → Buf (Elt Ideal) ℓ) (g : Dev Cert.ConvRefPIdeal.nD → PrngReg), Pre_ConvRefPIdeal m →
    θ_run (Cert.ConvRefPIdeal.defs (F := Ideal)) (onTc (τ := Cert.ConvRefPIdeal.τ) (Cert.ConvRefPIdeal.main (F := Ideal))) ⟨m, fun _ => 0, g⟩ (fun r => (∀ c : Dev Cert.ConvRefPIdeal.nD,
      r.2.mem ((c.tc : Thread Cert.ConvRefPIdeal.nD Cert.ConvRefPIdeal.τ).loc Cert.ConvRefPIdeal.main_arg0) = m ((c.tc : Thread Cert.ConvRefPIdeal.nD Cert.ConvRefPIdeal.τ).loc Cert.ConvRefPIdeal.main_arg0)
      ∧ r.2.mem ((c.tc : Thread Cert.ConvRefPIdeal.nD Cert.ConvRefPIdeal.τ).loc Cert.ConvRefPIdeal.main_arg1) = m ((c.tc : Thread Cert.ConvRefPIdeal.nD Cert.ConvRefPIdeal.τ).loc Cert.ConvRefPIdeal.main_arg1)
      ∧ r.2.mem ((c.tc : Thread Cert.ConvRefPIdeal.nD Cert.ConvRefPIdeal.τ).loc Cert.ConvRefPIdeal.main_arg2) = m ((c.tc : Thread Cert.ConvRefPIdeal.nD Cert.ConvRefPIdeal.τ).loc Cert.ConvRefPIdeal.main_arg2)
      ∧ r.2.mem ((c.tc : Thread Cert.ConvRefPIdeal.nD Cert.ConvRefPIdeal.τ).loc Cert.ConvRefPIdeal.main_arg3) = m ((c.tc : Thread Cert.ConvRefPIdeal.nD Cert.ConvRefPIdeal.τ).loc Cert.ConvRefPIdeal.main_arg3)
      ∧ r.2.mem ((c.tc : Thread Cert.ConvRefPIdeal.nD Cert.ConvRefPIdeal.τ).loc Cert.ConvRefPIdeal.main_arg4) = m ((c.tc : Thread Cert.ConvRefPIdeal.nD Cert.ConvRefPIdeal.τ).loc Cert.ConvRefPIdeal.main_arg4)
      ∧ r.2.mem ((c.tc : Thread Cert.ConvRefPIdeal.nD Cert.ConvRefPIdeal.τ).loc Cert.ConvRefPIdeal.main_arg5) = m ((c.tc : Thread Cert.ConvRefPIdeal.nD Cert.ConvRefPIdeal.τ).loc Cert.ConvRefPIdeal.main_arg5)
      ∧ r.2.mem ((c.tc : Thread Cert.ConvRefPIdeal.nD Cert.ConvRefPIdeal.τ).loc Cert.ConvRefPIdeal.main_arg6) = m ((c.tc : Thread Cert.ConvRefPIdeal.nD Cert.ConvRefPIdeal.τ).loc Cert.ConvRefPIdeal.main_arg6)
      ∧ r.2.mem ((c.tc : Thread Cert.ConvRefPIdeal.nD Cert.ConvRefPIdeal.τ).loc Cert.ConvRefPIdeal.main_arg7) = m ((c.tc : Thread Cert.ConvRefPIdeal.nD Cert.ConvRefPIdeal.τ).loc Cert.ConvRefPIdeal.main_arg7)
      ∧ r.2.mem ((c.tc : Thread Cert.ConvRefPIdeal.nD Cert.ConvRefPIdeal.τ).loc Cert.ConvRefPIdeal.main_arg8) = m ((c.tc : Thread Cert.ConvRefPIdeal.nD Cert.ConvRefPIdeal.τ).loc Cert.ConvRefPIdeal.main_arg8)
      ∧ r.2.mem ((c.tc : Thread Cert.ConvRefPIdeal.nD Cert.ConvRefPIdeal.τ).loc Cert.ConvRefPIdeal.main_arg9) = m ((c.tc : Thread Cert.ConvRefPIdeal.nD Cert.ConvRefPIdeal.τ).loc Cert.ConvRefPIdeal.main_arg9))
      ∧ r.2.sem = fun _ => 0)

def preserves_InProj_InProjIdeal : Prop :=
  True

def algebraic_InProjIdeal_InRefIdeal [hInProjIdeal : Cert.InProjIdeal.Facts] [hInRefIdeal : Cert.InRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InRefIdeal.nD Cert.InRefIdeal.τ Cert.InRefIdeal.sig) → Buf (Elt Ideal) ℓ) (g' : Dev Cert.InRefIdeal.nD → PrngReg), Pre_InProjIdeal m →
    (∀ c : Dev Cert.InProjIdeal.nD,
      m' ((c.tc : Thread Cert.InRefIdeal.nD Cert.InRefIdeal.τ).loc Cert.InRefIdeal.main_arg0) = m ((c.tc : Thread Cert.InProjIdeal.nD Cert.InProjIdeal.τ).loc Cert.InProjIdeal.main_arg0)
      ∧ m' ((c.tc : Thread Cert.InRefIdeal.nD Cert.InRefIdeal.τ).loc Cert.InRefIdeal.main_arg1) = m ((c.tc : Thread Cert.InProjIdeal.nD Cert.InProjIdeal.τ).loc Cert.InProjIdeal.main_arg1)
      ∧ m' ((c.tc : Thread Cert.InRefIdeal.nD Cert.InRefIdeal.τ).loc Cert.InRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v3) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2))

def preserves_InProjS_InProjSIdeal : Prop :=
  True

def algebraic_InProjSIdeal_InRefSIdeal [hInProjSIdeal : Cert.InProjSIdeal.Facts] [hInRefSIdeal : Cert.InRefSIdeal.Facts] : Prop :=
  ∀ (m : (ℓ : Loc Cert.InProjSIdeal.nD Cert.InProjSIdeal.τ Cert.InProjSIdeal.sig) → Buf (Elt Ideal) ℓ) (g : Dev Cert.InProjSIdeal.nD → PrngReg)
    (m' : (ℓ : Loc Cert.InRefSIdeal.nD Cert.InRefSIdeal.τ Cert.InRefSIdeal.sig) → Buf (Elt Ideal) ℓ) (g' : Dev Cert.InRefSIdeal.nD → PrngReg), Pre_InProjSIdeal m →
    (∀ c : Dev Cert.InProjSIdeal.nD,
      m' ((c.tc : Thread Cert.InRefSIdeal.nD Cert.InRefSIdeal.τ).loc Cert.InRefSIdeal.main_arg0) = m ((c.tc : Thread Cert.InProjSIdeal.nD Cert.InProjSIdeal.τ).loc Cert.InProjSIdeal.main_arg0)
      ∧ m' ((c.tc : Thread Cert.InRefSIdeal.nD Cert.InRefSIdeal.τ).loc Cert.InRefSIdeal.main_arg1) = m ((c.tc : Thread Cert.InProjSIdeal.nD Cert.InProjSIdeal.τ).loc Cert.InProjSIdeal.main_arg1)
      ∧ m' ((c.tc : Thread Cert.InRefSIdeal.nD Cert.InRefSIdeal.τ).loc Cert.InRefSIdeal.main_arg2) = m ((c.tc : Thread Cert.InProjSIdeal.nD Cert.InProjSIdeal.τ).loc Cert.InProjSIdeal.main_arg2)) →
    ∃ (v0 : (c : Dev Cert.InProjSIdeal.nD) → Buf (Elt Ideal) ((c.tc : Thread Cert.InProjSIdeal.nD Cert.InProjSIdeal.τ).loc Cert.InProjSIdeal.main_v0_0)) (v1 : (c : Dev Cert.InProjSIdeal.nD) → Buf (Elt Ideal) ((c.tc : Thread Cert.InProjSIdeal.nD Cert.InProjSIdeal.τ).loc Cert.InProjSIdeal.main_v0_1)),
      θ_run (Cert.InProjSIdeal.defs (F := Ideal)) (onTc (τ := Cert.InProjSIdeal.τ) (Cert.InProjSIdeal.main (F := Ideal))) ⟨m, fun _ => 0, g⟩ (fun r => ∀ c : Dev Cert.InProjSIdeal.nD,
          r.2.mem ((c.tc : Thread Cert.InProjSIdeal.nD Cert.InProjSIdeal.τ).loc Cert.InProjSIdeal.main_v0_0) = v0 c
          ∧ r.2.mem ((c.tc : Thread Cert.InProjSIdeal.nD Cert.InProjSIdeal.τ).loc Cert.InProjSIdeal.main_v0_1) = v1 c
          ∧ r.2.mem ((c.tc : Thread Cert.InProjSIdeal.nD Cert.InProjSIdeal.τ).loc Cert.InProjSIdeal.main_arg0) = m ((c.tc : Thread Cert.InProjSIdeal.nD Cert.InProjSIdeal.τ).loc Cert.InProjSIdeal.main_arg0)
          ∧ r.2.mem ((c.tc : Thread Cert.InProjSIdeal.nD Cert.InProjSIdeal.τ).loc Cert.InProjSIdeal.main_arg1) = m ((c.tc : Thread Cert.InProjSIdeal.nD Cert.InProjSIdeal.τ).loc Cert.InProjSIdeal.main_arg1)
          ∧ r.2.mem ((c.tc : Thread Cert.InProjSIdeal.nD Cert.InProjSIdeal.τ).loc Cert.InProjSIdeal.main_arg2) = m ((c.tc : Thread Cert.InProjSIdeal.nD Cert.InProjSIdeal.τ).loc Cert.InProjSIdeal.main_arg2))
      ∧ θ_run (Cert.InRefSIdeal.defs (F := Ideal)) (onTc (τ := Cert.InRefSIdeal.τ) (Cert.InRefSIdeal.main (F := Ideal))) ⟨m', fun _ => 0, g'⟩ (fun r => ∀ c : Dev Cert.InRefSIdeal.nD,
          r.2.mem ((c.tc : Thread Cert.InRefSIdeal.nD Cert.InRefSIdeal.τ).loc Cert.InRefSIdeal.main_v2) = v0 c
          ∧ r.2.mem ((c.tc : Thread Cert.InRefSIdeal.nD Cert.InRefSIdeal.τ).loc Cert.InRefSIdeal.main_v3) = v1 c
          ∧ r.2.mem ((c.tc : Thread Cert.InRefSIdeal.nD Cert.InRefSIdeal.τ).loc Cert.InRefSIdeal.main_arg0) = m' ((c.tc : Thread Cert.InRefSIdeal.nD Cert.InRefSIdeal.τ).loc Cert.InRefSIdeal.main_arg0)
          ∧ r.2.mem ((c.tc : Thread Cert.InRefSIdeal.nD Cert.InRefSIdeal.τ).loc Cert.InRefSIdeal.main_arg1) = m' ((c.tc : Thread Cert.InRefSIdeal.nD Cert.InRefSIdeal.τ).loc Cert.InRefSIdeal.main_arg1)
          ∧ r.2.mem ((c.tc : Thread Cert.InRefSIdeal.nD Cert.InRefSIdeal.τ).loc Cert.InRefSIdeal.main_arg2) = m' ((c.tc : Thread Cert.InRefSIdeal.nD Cert.InRefSIdeal.τ).loc Cert.InRefSIdeal.main_arg2))

def preserves_OutProj_OutProjIdeal : Prop :=
  True

def algebraic_OutProjIdeal_OutRefIdeal [hOutProjIdeal : Cert.OutProjIdeal.Facts] [hOutRefIdeal : Cert.OutRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutProjIdeal m →
    (∀ c : Dev Cert.OutProjIdeal.nD,
      m' ((c.tc : Thread Cert.OutRefIdeal.nD Cert.OutRefIdeal.τ).loc Cert.OutRefIdeal.main_arg0) = m ((c.tc : Thread Cert.OutProjIdeal.nD Cert.OutProjIdeal.τ).loc Cert.OutProjIdeal.main_arg0)
      ∧ m' ((c.tc : Thread Cert.OutRefIdeal.nD Cert.OutRefIdeal.τ).loc Cert.OutRefIdeal.main_arg1) = m ((c.tc : Thread Cert.OutProjIdeal.nD Cert.OutProjIdeal.τ).loc Cert.OutProjIdeal.main_arg1)
      ∧ m' ((c.tc : Thread Cert.OutRefIdeal.nD Cert.OutRefIdeal.τ).loc Cert.OutRefIdeal.main_arg2) = m ((c.tc : Thread Cert.OutProjIdeal.nD Cert.OutProjIdeal.τ).loc Cert.OutProjIdeal.main_arg2)
      ∧ m' ((c.tc : Thread Cert.OutRefIdeal.nD Cert.OutRefIdeal.τ).loc Cert.OutRefIdeal.main_arg3) = m ((c.tc : Thread Cert.OutProjIdeal.nD Cert.OutProjIdeal.τ).loc Cert.OutProjIdeal.main_arg3)
      ∧ m' ((c.tc : Thread Cert.OutRefIdeal.nD Cert.OutRefIdeal.τ).loc Cert.OutRefIdeal.main_arg4) = m ((c.tc : Thread Cert.OutProjIdeal.nD Cert.OutProjIdeal.τ).loc Cert.OutProjIdeal.main_arg4)
      ∧ m' ((c.tc : Thread Cert.OutRefIdeal.nD Cert.OutRefIdeal.τ).loc Cert.OutRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v29) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnS_FfnSIdeal : Prop :=
  True

def algebraic_FfnSIdeal_FfnRefSIdeal_pre_ffns_finite [hFfnSIdeal : Cert.FfnSIdeal.Facts] [hFfnRefSIdeal : Cert.FfnRefSIdeal.Facts] [hPre_ffns_finite : Cert.Pre_ffns_finite.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnRefSIdeal.nD Cert.FfnRefSIdeal.τ Cert.FfnRefSIdeal.sig) → Buf (Elt Ideal) ℓ) (g' : Dev Cert.FfnRefSIdeal.nD → PrngReg), Pre_FfnSIdeal_ffns_finite m →
    (∀ c : Dev Cert.FfnSIdeal.nD,
      m' ((c.tc : Thread Cert.FfnRefSIdeal.nD Cert.FfnRefSIdeal.τ).loc Cert.FfnRefSIdeal.main_arg0) = m ((c.tc : Thread Cert.FfnSIdeal.nD Cert.FfnSIdeal.τ).loc Cert.FfnSIdeal.main_arg0)
      ∧ m' ((c.tc : Thread Cert.FfnRefSIdeal.nD Cert.FfnRefSIdeal.τ).loc Cert.FfnRefSIdeal.main_arg1) = m ((c.tc : Thread Cert.FfnSIdeal.nD Cert.FfnSIdeal.τ).loc Cert.FfnSIdeal.main_arg1)
      ∧ m' ((c.tc : Thread Cert.FfnRefSIdeal.nD Cert.FfnRefSIdeal.τ).loc Cert.FfnRefSIdeal.main_arg2) = m ((c.tc : Thread Cert.FfnSIdeal.nD Cert.FfnSIdeal.τ).loc Cert.FfnSIdeal.main_arg2)
      ∧ m' ((c.tc : Thread Cert.FfnRefSIdeal.nD Cert.FfnRefSIdeal.τ).loc Cert.FfnRefSIdeal.main_arg3) = m ((c.tc : Thread Cert.FfnSIdeal.nD Cert.FfnSIdeal.τ).loc Cert.FfnSIdeal.main_arg3)
      ∧ m' ((c.tc : Thread Cert.FfnRefSIdeal.nD Cert.FfnRefSIdeal.τ).loc Cert.FfnRefSIdeal.main_arg4) = m ((c.tc : Thread Cert.FfnSIdeal.nD Cert.FfnSIdeal.τ).loc Cert.FfnSIdeal.main_arg4)
      ∧ m' ((c.tc : Thread Cert.FfnRefSIdeal.nD Cert.FfnRefSIdeal.τ).loc Cert.FfnRefSIdeal.main_arg5) = m ((c.tc : Thread Cert.FfnSIdeal.nD Cert.FfnSIdeal.τ).loc Cert.FfnSIdeal.main_arg5)) →
    ∃ (v0 : (c : Dev Cert.FfnSIdeal.nD) → Buf (Elt Ideal) ((c.tc : Thread Cert.FfnSIdeal.nD Cert.FfnSIdeal.τ).loc Cert.FfnSIdeal.main_v0)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v0) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5))
      ∧ θ_run (Cert.FfnRefSIdeal.defs (F := Ideal)) (onTc (τ := Cert.FfnRefSIdeal.τ) (Cert.FfnRefSIdeal.main (F := Ideal))) ⟨m', fun _ => 0, g'⟩ (fun r => ∀ c : Dev Cert.FfnRefSIdeal.nD,
          r.2.mem ((c.tc : Thread Cert.FfnRefSIdeal.nD Cert.FfnRefSIdeal.τ).loc Cert.FfnRefSIdeal.main_v32) = v0 c
          ∧ r.2.mem ((c.tc : Thread Cert.FfnRefSIdeal.nD Cert.FfnRefSIdeal.τ).loc Cert.FfnRefSIdeal.main_arg0) = m' ((c.tc : Thread Cert.FfnRefSIdeal.nD Cert.FfnRefSIdeal.τ).loc Cert.FfnRefSIdeal.main_arg0)
          ∧ r.2.mem ((c.tc : Thread Cert.FfnRefSIdeal.nD Cert.FfnRefSIdeal.τ).loc Cert.FfnRefSIdeal.main_arg1) = m' ((c.tc : Thread Cert.FfnRefSIdeal.nD Cert.FfnRefSIdeal.τ).loc Cert.FfnRefSIdeal.main_arg1)
          ∧ r.2.mem ((c.tc : Thread Cert.FfnRefSIdeal.nD Cert.FfnRefSIdeal.τ).loc Cert.FfnRefSIdeal.main_arg2) = m' ((c.tc : Thread Cert.FfnRefSIdeal.nD Cert.FfnRefSIdeal.τ).loc Cert.FfnRefSIdeal.main_arg2)
          ∧ r.2.mem ((c.tc : Thread Cert.FfnRefSIdeal.nD Cert.FfnRefSIdeal.τ).loc Cert.FfnRefSIdeal.main_arg3) = m' ((c.tc : Thread Cert.FfnRefSIdeal.nD Cert.FfnRefSIdeal.τ).loc Cert.FfnRefSIdeal.main_arg3)
          ∧ r.2.mem ((c.tc : Thread Cert.FfnRefSIdeal.nD Cert.FfnRefSIdeal.τ).loc Cert.FfnRefSIdeal.main_arg4) = m' ((c.tc : Thread Cert.FfnRefSIdeal.nD Cert.FfnRefSIdeal.τ).loc Cert.FfnRefSIdeal.main_arg4)
          ∧ r.2.mem ((c.tc : Thread Cert.FfnRefSIdeal.nD Cert.FfnRefSIdeal.τ).loc Cert.FfnRefSIdeal.main_arg5) = m' ((c.tc : Thread Cert.FfnRefSIdeal.nD Cert.FfnRefSIdeal.τ).loc Cert.FfnRefSIdeal.main_arg5))

def preserves_Conv_ConvIdeal : Prop :=
  True

def algebraic_ConvIdeal_ConvRefIdeal_pre_conv_finite [hConvIdeal : Cert.ConvIdeal.Facts] [hConvRefIdeal : Cert.ConvRefIdeal.Facts] [hPre_conv_finite : Cert.Pre_conv_finite.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal_conv_finite m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v2_0)) (v1 : (c : Dev Cert.ConvIdeal.nD) → Buf (Elt Ideal) ((c.tc : Thread Cert.ConvIdeal.nD Cert.ConvIdeal.τ).loc Cert.ConvIdeal.main_v2_1)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v2_0) = v0 c
          ∧ r.2.mem ((c.tc : Thread Cert.ConvIdeal.nD Cert.ConvIdeal.τ).loc Cert.ConvIdeal.main_v2_1) = v1 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v257) = v0 c
          ∧ r.2.mem ((c.tc : Thread Cert.ConvRefIdeal.nD Cert.ConvRefIdeal.τ).loc Cert.ConvRefIdeal.main_v258) = v1 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_ConvP_ConvPIdeal : Prop :=
  True

def algebraic_ConvPIdeal_ConvRefPIdeal [hConvPIdeal : Cert.ConvPIdeal.Facts] [hConvRefPIdeal : Cert.ConvRefPIdeal.Facts] : Prop :=
  ∀ (m : (ℓ : Loc Cert.ConvPIdeal.nD Cert.ConvPIdeal.τ Cert.ConvPIdeal.sig) → Buf (Elt Ideal) ℓ) (g : Dev Cert.ConvPIdeal.nD → PrngReg)
    (m' : (ℓ : Loc Cert.ConvRefPIdeal.nD Cert.ConvRefPIdeal.τ Cert.ConvRefPIdeal.sig) → Buf (Elt Ideal) ℓ) (g' : Dev Cert.ConvRefPIdeal.nD → PrngReg), Pre_ConvPIdeal m →
    (∀ c : Dev Cert.ConvPIdeal.nD,
      m' ((c.tc : Thread Cert.ConvRefPIdeal.nD Cert.ConvRefPIdeal.τ).loc Cert.ConvRefPIdeal.main_arg0) = m ((c.tc : Thread Cert.ConvPIdeal.nD Cert.ConvPIdeal.τ).loc Cert.ConvPIdeal.main_arg0)
      ∧ m' ((c.tc : Thread Cert.ConvRefPIdeal.nD Cert.ConvRefPIdeal.τ).loc Cert.ConvRefPIdeal.main_arg1) = m ((c.tc : Thread Cert.ConvPIdeal.nD Cert.ConvPIdeal.τ).loc Cert.ConvPIdeal.main_arg1)
      ∧ m' ((c.tc : Thread Cert.ConvRefPIdeal.nD Cert.ConvRefPIdeal.τ).loc Cert.ConvRefPIdeal.main_arg2) = m ((c.tc : Thread Cert.ConvPIdeal.nD Cert.ConvPIdeal.τ).loc Cert.ConvPIdeal.main_arg2)
      ∧ m' ((c.tc : Thread Cert.ConvRefPIdeal.nD Cert.ConvRefPIdeal.τ).loc Cert.ConvRefPIdeal.main_arg3) = m ((c.tc : Thread Cert.ConvPIdeal.nD Cert.ConvPIdeal.τ).loc Cert.ConvPIdeal.main_arg3)
      ∧ m' ((c.tc : Thread Cert.ConvRefPIdeal.nD Cert.ConvRefPIdeal.τ).loc Cert.ConvRefPIdeal.main_arg4) = m ((c.tc : Thread Cert.ConvPIdeal.nD Cert.ConvPIdeal.τ).loc Cert.ConvPIdeal.main_arg4)
      ∧ m' ((c.tc : Thread Cert.ConvRefPIdeal.nD Cert.ConvRefPIdeal.τ).loc Cert.ConvRefPIdeal.main_arg5) = m ((c.tc : Thread Cert.ConvPIdeal.nD Cert.ConvPIdeal.τ).loc Cert.ConvPIdeal.main_arg5)
      ∧ m' ((c.tc : Thread Cert.ConvRefPIdeal.nD Cert.ConvRefPIdeal.τ).loc Cert.ConvRefPIdeal.main_arg6) = m ((c.tc : Thread Cert.ConvPIdeal.nD Cert.ConvPIdeal.τ).loc Cert.ConvPIdeal.main_arg6)
      ∧ m' ((c.tc : Thread Cert.ConvRefPIdeal.nD Cert.ConvRefPIdeal.τ).loc Cert.ConvRefPIdeal.main_arg7) = m ((c.tc : Thread Cert.ConvPIdeal.nD Cert.ConvPIdeal.τ).loc Cert.ConvPIdeal.main_arg7)
      ∧ m' ((c.tc : Thread Cert.ConvRefPIdeal.nD Cert.ConvRefPIdeal.τ).loc Cert.ConvRefPIdeal.main_arg8) = m ((c.tc : Thread Cert.ConvPIdeal.nD Cert.ConvPIdeal.τ).loc Cert.ConvPIdeal.main_arg8)
      ∧ m' ((c.tc : Thread Cert.ConvRefPIdeal.nD Cert.ConvRefPIdeal.τ).loc Cert.ConvRefPIdeal.main_arg9) = m ((c.tc : Thread Cert.ConvPIdeal.nD Cert.ConvPIdeal.τ).loc Cert.ConvPIdeal.main_arg9)) →
    ∃ (v0 : (c : Dev Cert.ConvPIdeal.nD) → Buf (Elt Ideal) ((c.tc : Thread Cert.ConvPIdeal.nD Cert.ConvPIdeal.τ).loc Cert.ConvPIdeal.main_v2_1)) (v1 : (c : Dev Cert.ConvPIdeal.nD) → Buf (Elt Ideal) ((c.tc : Thread Cert.ConvPIdeal.nD Cert.ConvPIdeal.τ).loc Cert.ConvPIdeal.main_v2_2)) (v2 : (c : Dev Cert.ConvPIdeal.nD) → Buf (Elt Ideal) ((c.tc : Thread Cert.ConvPIdeal.nD Cert.ConvPIdeal.τ).loc Cert.ConvPIdeal.main_v2_3)) (v3 : (c : Dev Cert.ConvPIdeal.nD) → Buf (Elt Ideal) ((c.tc : Thread Cert.ConvPIdeal.nD Cert.ConvPIdeal.τ).loc Cert.ConvPIdeal.main_v2_4)) (v4 : (c : Dev Cert.ConvPIdeal.nD) → Buf (Elt Ideal) ((c.tc : Thread Cert.ConvPIdeal.nD Cert.ConvPIdeal.τ).loc Cert.ConvPIdeal.main_v2_5)),
      θ_run (Cert.ConvPIdeal.defs (F := Ideal)) (onTc (τ := Cert.ConvPIdeal.τ) (Cert.ConvPIdeal.main (F := Ideal))) ⟨m, fun _ => 0, g⟩ (fun r => ∀ c : Dev Cert.ConvPIdeal.nD,
          r.2.mem ((c.tc : Thread Cert.ConvPIdeal.nD Cert.ConvPIdeal.τ).loc Cert.ConvPIdeal.main_v2_1) = v0 c
          ∧ r.2.mem ((c.tc : Thread Cert.ConvPIdeal.nD Cert.ConvPIdeal.τ).loc Cert.ConvPIdeal.main_v2_2) = v1 c
          ∧ r.2.mem ((c.tc : Thread Cert.ConvPIdeal.nD Cert.ConvPIdeal.τ).loc Cert.ConvPIdeal.main_v2_3) = v2 c
          ∧ r.2.mem ((c.tc : Thread Cert.ConvPIdeal.nD Cert.ConvPIdeal.τ).loc Cert.ConvPIdeal.main_v2_4) = v3 c
          ∧ r.2.mem ((c.tc : Thread Cert.ConvPIdeal.nD Cert.ConvPIdeal.τ).loc Cert.ConvPIdeal.main_v2_5) = v4 c
          ∧ r.2.mem ((c.tc : Thread Cert.ConvPIdeal.nD Cert.ConvPIdeal.τ).loc Cert.ConvPIdeal.main_arg0) = m ((c.tc : Thread Cert.ConvPIdeal.nD Cert.ConvPIdeal.τ).loc Cert.ConvPIdeal.main_arg0)
          ∧ r.2.mem ((c.tc : Thread Cert.ConvPIdeal.nD Cert.ConvPIdeal.τ).loc Cert.ConvPIdeal.main_arg1) = m ((c.tc : Thread Cert.ConvPIdeal.nD Cert.ConvPIdeal.τ).loc Cert.ConvPIdeal.main_arg1)
          ∧ r.2.mem ((c.tc : Thread Cert.ConvPIdeal.nD Cert.ConvPIdeal.τ).loc Cert.ConvPIdeal.main_arg2) = m ((c.tc : Thread Cert.ConvPIdeal.nD Cert.ConvPIdeal.τ).loc Cert.ConvPIdeal.main_arg2)
          ∧ r.2.mem ((c.tc : Thread Cert.ConvPIdeal.nD Cert.ConvPIdeal.τ).loc Cert.ConvPIdeal.main_arg3) = m ((c.tc : Thread Cert.ConvPIdeal.nD Cert.ConvPIdeal.τ).loc Cert.ConvPIdeal.main_arg3)
          ∧ r.2.mem ((c.tc : Thread Cert.ConvPIdeal.nD Cert.ConvPIdeal.τ).loc Cert.ConvPIdeal.main_arg4) = m ((c.tc : Thread Cert.ConvPIdeal.nD Cert.ConvPIdeal.τ).loc Cert.ConvPIdeal.main_arg4)
          ∧ r.2.mem ((c.tc : Thread Cert.ConvPIdeal.nD Cert.ConvPIdeal.τ).loc Cert.ConvPIdeal.main_arg5) = m ((c.tc : Thread Cert.ConvPIdeal.nD Cert.ConvPIdeal.τ).loc Cert.ConvPIdeal.main_arg5)
          ∧ r.2.mem ((c.tc : Thread Cert.ConvPIdeal.nD Cert.ConvPIdeal.τ).loc Cert.ConvPIdeal.main_arg6) = m ((c.tc : Thread Cert.ConvPIdeal.nD Cert.ConvPIdeal.τ).loc Cert.ConvPIdeal.main_arg6)
          ∧ r.2.mem ((c.tc : Thread Cert.ConvPIdeal.nD Cert.ConvPIdeal.τ).loc Cert.ConvPIdeal.main_arg7) = m ((c.tc : Thread Cert.ConvPIdeal.nD Cert.ConvPIdeal.τ).loc Cert.ConvPIdeal.main_arg7)
          ∧ r.2.mem ((c.tc : Thread Cert.ConvPIdeal.nD Cert.ConvPIdeal.τ).loc Cert.ConvPIdeal.main_arg8) = m ((c.tc : Thread Cert.ConvPIdeal.nD Cert.ConvPIdeal.τ).loc Cert.ConvPIdeal.main_arg8)
          ∧ r.2.mem ((c.tc : Thread Cert.ConvPIdeal.nD Cert.ConvPIdeal.τ).loc Cert.ConvPIdeal.main_arg9) = m ((c.tc : Thread Cert.ConvPIdeal.nD Cert.ConvPIdeal.τ).loc Cert.ConvPIdeal.main_arg9))
      ∧ θ_run (Cert.ConvRefPIdeal.defs (F := Ideal)) (onTc (τ := Cert.ConvRefPIdeal.τ) (Cert.ConvRefPIdeal.main (F := Ideal))) ⟨m', fun _ => 0, g'⟩ (fun r => ∀ c : Dev Cert.ConvRefPIdeal.nD,
          r.2.mem ((c.tc : Thread Cert.ConvRefPIdeal.nD Cert.ConvRefPIdeal.τ).loc Cert.ConvRefPIdeal.main_v12) = v0 c
          ∧ r.2.mem ((c.tc : Thread Cert.ConvRefPIdeal.nD Cert.ConvRefPIdeal.τ).loc Cert.ConvRefPIdeal.main_v13) = v1 c
          ∧ r.2.mem ((c.tc : Thread Cert.ConvRefPIdeal.nD Cert.ConvRefPIdeal.τ).loc Cert.ConvRefPIdeal.main_v14) = v2 c
          ∧ r.2.mem ((c.tc : Thread Cert.ConvRefPIdeal.nD Cert.ConvRefPIdeal.τ).loc Cert.ConvRefPIdeal.main_v15) = v3 c
          ∧ r.2.mem ((c.tc : Thread Cert.ConvRefPIdeal.nD Cert.ConvRefPIdeal.τ).loc Cert.ConvRefPIdeal.main_v16) = v4 c
          ∧ r.2.mem ((c.tc : Thread Cert.ConvRefPIdeal.nD Cert.ConvRefPIdeal.τ).loc Cert.ConvRefPIdeal.main_arg0) = m' ((c.tc : Thread Cert.ConvRefPIdeal.nD Cert.ConvRefPIdeal.τ).loc Cert.ConvRefPIdeal.main_arg0)
          ∧ r.2.mem ((c.tc : Thread Cert.ConvRefPIdeal.nD Cert.ConvRefPIdeal.τ).loc Cert.ConvRefPIdeal.main_arg1) = m' ((c.tc : Thread Cert.ConvRefPIdeal.nD Cert.ConvRefPIdeal.τ).loc Cert.ConvRefPIdeal.main_arg1)
          ∧ r.2.mem ((c.tc : Thread Cert.ConvRefPIdeal.nD Cert.ConvRefPIdeal.τ).loc Cert.ConvRefPIdeal.main_arg2) = m' ((c.tc : Thread Cert.ConvRefPIdeal.nD Cert.ConvRefPIdeal.τ).loc Cert.ConvRefPIdeal.main_arg2)
          ∧ r.2.mem ((c.tc : Thread Cert.ConvRefPIdeal.nD Cert.ConvRefPIdeal.τ).loc Cert.ConvRefPIdeal.main_arg3) = m' ((c.tc : Thread Cert.ConvRefPIdeal.nD Cert.ConvRefPIdeal.τ).loc Cert.ConvRefPIdeal.main_arg3)
          ∧ r.2.mem ((c.tc : Thread Cert.ConvRefPIdeal.nD Cert.ConvRefPIdeal.τ).loc Cert.ConvRefPIdeal.main_arg4) = m' ((c.tc : Thread Cert.ConvRefPIdeal.nD Cert.ConvRefPIdeal.τ).loc Cert.ConvRefPIdeal.main_arg4)
          ∧ r.2.mem ((c.tc : Thread Cert.ConvRefPIdeal.nD Cert.ConvRefPIdeal.τ).loc Cert.ConvRefPIdeal.main_arg5) = m' ((c.tc : Thread Cert.ConvRefPIdeal.nD Cert.ConvRefPIdeal.τ).loc Cert.ConvRefPIdeal.main_arg5)
          ∧ r.2.mem ((c.tc : Thread Cert.ConvRefPIdeal.nD Cert.ConvRefPIdeal.τ).loc Cert.ConvRefPIdeal.main_arg6) = m' ((c.tc : Thread Cert.ConvRefPIdeal.nD Cert.ConvRefPIdeal.τ).loc Cert.ConvRefPIdeal.main_arg6)
          ∧ r.2.mem ((c.tc : Thread Cert.ConvRefPIdeal.nD Cert.ConvRefPIdeal.τ).loc Cert.ConvRefPIdeal.main_arg7) = m' ((c.tc : Thread Cert.ConvRefPIdeal.nD Cert.ConvRefPIdeal.τ).loc Cert.ConvRefPIdeal.main_arg7)
          ∧ r.2.mem ((c.tc : Thread Cert.ConvRefPIdeal.nD Cert.ConvRefPIdeal.τ).loc Cert.ConvRefPIdeal.main_arg8) = m' ((c.tc : Thread Cert.ConvRefPIdeal.nD Cert.ConvRefPIdeal.τ).loc Cert.ConvRefPIdeal.main_arg8)
          ∧ r.2.mem ((c.tc : Thread Cert.ConvRefPIdeal.nD Cert.ConvRefPIdeal.τ).loc Cert.ConvRefPIdeal.main_arg9) = m' ((c.tc : Thread Cert.ConvRefPIdeal.nD Cert.ConvRefPIdeal.τ).loc Cert.ConvRefPIdeal.main_arg9))

def Claim : Prop :=
  ∃ (hInProj : Cert.InProj.Facts) (hInProjIdeal : Cert.InProjIdeal.Facts) (hInRefIdeal : Cert.InRefIdeal.Facts) (hInProjS : Cert.InProjS.Facts) (hInProjSIdeal : Cert.InProjSIdeal.Facts) (hInRefSIdeal : Cert.InRefSIdeal.Facts) (hOutProj : Cert.OutProj.Facts) (hOutProjIdeal : Cert.OutProjIdeal.Facts) (hOutRefIdeal : Cert.OutRefIdeal.Facts) (hFfn : Cert.Ffn.Facts) (hFfnIdeal : Cert.FfnIdeal.Facts) (hFfnRefIdeal : Cert.FfnRefIdeal.Facts) (hFfnS : Cert.FfnS.Facts) (hFfnSIdeal : Cert.FfnSIdeal.Facts) (hFfnRefSIdeal : Cert.FfnRefSIdeal.Facts) (hConv : Cert.Conv.Facts) (hConvIdeal : Cert.ConvIdeal.Facts) (hConvRefIdeal : Cert.ConvRefIdeal.Facts) (hConvP : Cert.ConvP.Facts) (hConvPIdeal : Cert.ConvPIdeal.Facts) (hConvRefPIdeal : Cert.ConvRefPIdeal.Facts) (hPre_ffn_finite : Cert.Pre_ffn_finite.Facts) (hPre_ffns_finite : Cert.Pre_ffns_finite.Facts) (hPre_conv_finite : Cert.Pre_conv_finite.Facts),
    quiescent_InProj (hInProj := hInProj)
    ∧ quiescent_InProjIdeal (hInProjIdeal := hInProjIdeal)
    ∧ quiescent_InRefIdeal (hInRefIdeal := hInRefIdeal)
    ∧ quiescent_InProjS (hInProjS := hInProjS)
    ∧ quiescent_InProjSIdeal (hInProjSIdeal := hInProjSIdeal)
    ∧ quiescent_InRefSIdeal (hInRefSIdeal := hInRefSIdeal)
    ∧ quiescent_OutProj (hOutProj := hOutProj)
    ∧ quiescent_OutProjIdeal (hOutProjIdeal := hOutProjIdeal)
    ∧ quiescent_OutRefIdeal (hOutRefIdeal := hOutRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_FfnS (hFfnS := hFfnS)
    ∧ quiescent_FfnSIdeal (hFfnSIdeal := hFfnSIdeal)
    ∧ quiescent_FfnSIdeal_pre_ffns_finite (hFfnSIdeal := hFfnSIdeal) (hPre_ffns_finite := hPre_ffns_finite)
    ∧ quiescent_FfnRefSIdeal (hFfnRefSIdeal := hFfnRefSIdeal)
    ∧ quiescent_FfnRefSIdeal_pre_ffns_finite (hFfnRefSIdeal := hFfnRefSIdeal) (hPre_ffns_finite := hPre_ffns_finite)
    ∧ quiescent_Conv (hConv := hConv)
    ∧ quiescent_ConvIdeal (hConvIdeal := hConvIdeal)
    ∧ quiescent_ConvIdeal_pre_conv_finite (hConvIdeal := hConvIdeal) (hPre_conv_finite := hPre_conv_finite)
    ∧ quiescent_ConvRefIdeal (hConvRefIdeal := hConvRefIdeal)
    ∧ quiescent_ConvRefIdeal_pre_conv_finite (hConvRefIdeal := hConvRefIdeal) (hPre_conv_finite := hPre_conv_finite)
    ∧ quiescent_ConvP (hConvP := hConvP)
    ∧ quiescent_ConvPIdeal (hConvPIdeal := hConvPIdeal)
    ∧ quiescent_ConvRefPIdeal (hConvRefPIdeal := hConvRefPIdeal)
    ∧ preserves_InProj_InProjIdeal
    ∧ algebraic_InProjIdeal_InRefIdeal (hInProjIdeal := hInProjIdeal) (hInRefIdeal := hInRefIdeal)
    ∧ preserves_InProjS_InProjSIdeal
    ∧ algebraic_InProjSIdeal_InRefSIdeal (hInProjSIdeal := hInProjSIdeal) (hInRefSIdeal := hInRefSIdeal)
    ∧ preserves_OutProj_OutProjIdeal
    ∧ algebraic_OutProjIdeal_OutRefIdeal (hOutProjIdeal := hOutProjIdeal) (hOutRefIdeal := hOutRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_FfnS_FfnSIdeal
    ∧ algebraic_FfnSIdeal_FfnRefSIdeal_pre_ffns_finite (hFfnSIdeal := hFfnSIdeal) (hFfnRefSIdeal := hFfnRefSIdeal) (hPre_ffns_finite := hPre_ffns_finite)
    ∧ preserves_Conv_ConvIdeal
    ∧ algebraic_ConvIdeal_ConvRefIdeal_pre_conv_finite (hConvIdeal := hConvIdeal) (hConvRefIdeal := hConvRefIdeal) (hPre_conv_finite := hPre_conv_finite)
    ∧ preserves_ConvP_ConvPIdeal
    ∧ algebraic_ConvPIdeal_ConvRefPIdeal (hConvPIdeal := hConvPIdeal) (hConvRefPIdeal := hConvRefPIdeal)
-- ==== Pre_conv_finite.lean ====
abbrev S512x6144 : Shape := ⟨2, ![512, 6144]⟩
abbrev S32x30x1024 : Shape := ⟨3, ![32, 30, 1024]⟩
abbrev S31x1024 : Shape := ⟨2, ![31, 1024]⟩
abbrev S1x1024 : Shape := ⟨2, ![1, 1024]⟩
abbrev S_ : Shape := ⟨0, ![]⟩

class Facts : Prop where
  bcast_S_S512x6144 : S_.BroadcastsInDim S512x6144 (![] : Fin 0 → Fin S512x6144.rank)
  bcast_S_S32x30x1024 : S_.BroadcastsInDim S32x30x1024 (![] : Fin 0 → Fin S32x30x1024.rank)
  bcast_S_S31x1024 : S_.BroadcastsInDim S31x1024 (![] : Fin 0 → Fin S31x1024.rank)
  bcast_S_S1x1024 : S_.BroadcastsInDim S1x1024 (![] : Fin 0 → Fin S1x1024.rank)

variable [Facts]

def fn {F : FTy → Type} [FloatOps F] (main_arg0 : FVec F S512x6144 .f32) (main_arg1 : FVec F S32x30x1024 .f32) (main_arg2 : FVec F S31x1024 .f32) (main_arg3 : FVec F S1x1024 .f32) (main_arg4 : FVec F S1x1024 .f32) (main_arg5 : FVec F S1x1024 .f32) : IVec S512x6144 1 × IVec S32x30x1024 1 × IVec S31x1024 1 × IVec S1x1024 1 × IVec S1x1024 1 × IVec S1x1024 1 :=
  let main_v0 : FVec F S512x6144 .f32 := Host.absf main_arg0
  let main_cst : FVec F S_ .f32 := constant S_ .f32 0x7F800000#32
  let main_v1 : FVec F S512x6144 .f32 := broadcastInDim S512x6144 ![] bcast_S_S512x6144 main_cst
  let main_v2 : IVec S512x6144 1 := cmpf .olt main_v0 main_v1
  let main_v3 : FVec F S32x30x1024 .f32 := Host.absf main_arg1
  let main_cst_0 : FVec F S_ .f32 := constant S_ .f32 0x7F800000#32
  let main_v4 : FVec F S32x30x1024 .f32 := broadcastInDim S32x30x1024 ![] bcast_S_S32x30x1024 main_cst_0
  let main_v5 : IVec S32x30x1024 1 := cmpf .olt main_v3 main_v4
  let main_v6 : FVec F S31x1024 .f32 := Host.absf main_arg2
  let main_cst_1 : FVec F S_ .f32 := constant S_ .f32 0x7F800000#32
  let main_v7 : FVec F S31x1024 .f32 := broadcastInDim S31x1024 ![] bcast_S_S31x1024 main_cst_1
  let main_v8 : IVec S31x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1x1024 .f32 := Host.absf main_arg4
  let main_cst_3 : FVec F S_ .f32 := constant S_ .f32 0x7F800000#32
  let main_v13 : FVec F S1x1024 .f32 := broadcastInDim S1x1024 ![] bcast_S_S1x1024 main_cst_3
  let main_v14 : IVec S1x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  (main_v2, main_v5, main_v8, main_v11, main_v14, main_v17)
-- ==== Pre_ffn_finite.lean ====
abbrev S8192x2048 : Shape := ⟨2, ![8192, 2048]⟩
abbrev S2048x5632 : Shape := ⟨2, ![2048, 5632]⟩
abbrev S5632x2048 : Shape := ⟨2, ![5632, 2048]⟩
abbrev S1x2048 : Shape := ⟨2, ![1, 2048]⟩
abbrev S_ : Shape := ⟨0, ![]⟩

class Facts : Prop where
  bcast_S_S8192x2048 : S_.BroadcastsInDim S8192x2048 (![] : Fin 0 → Fin S8192x2048.rank)
  bitsLt_bf16_f32 : FTy.bits .bf16 < FTy.bits .f32
  bcast_S_S2048x5632 : S_.BroadcastsInDim S2048x5632 (![] : Fin 0 → Fin S2048x5632.rank)

variable [Facts]

def fn {F : FTy → Type} [FloatOps F] (main_arg0 : FVec F S8192x2048 .f32) (main_arg1 : FVec F S2048x5632 .bf16) (main_arg2 : FVec F S2048x5632 .bf16) (main_arg3 : FVec F S5632x2048 .bf16) (main_arg4 : FVec F S1x2048 .f32) (main_arg5 : FVec F S1x2048 .f32) : IVec S8192x2048 1 × IVec S2048x5632 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S2048x5632 .f32 := (extf .f32 · bitsLt_bf16_f32) main_arg1
  let main_v4 : FVec F S2048x5632 .f32 := Host.absf main_v3
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  (main_v2, main_v6)
-- ==== Pre_ffns_finite.lean ====
abbrev S512x2048 : Shape := ⟨2, ![512, 2048]⟩
abbrev S2048x5632 : Shape := ⟨2, ![2048, 5632]⟩
abbrev S5632x2048 : Shape := ⟨2, ![5632, 2048]⟩
abbrev S1x2048 : Shape := ⟨2, ![1, 2048]⟩
abbrev S_ : Shape := ⟨0, ![]⟩

class Facts : Prop where
  bcast_S_S512x2048 : S_.BroadcastsInDim S512x2048 (![] : Fin 0 → Fin S512x2048.rank)
  bitsLt_bf16_f32 : FTy.bits .bf16 < FTy.bits .f32
  bcast_S_S2048x5632 : S_.BroadcastsInDim S2048x5632 (![] : Fin 0 → Fin S2048x5632.rank)

variable [Facts]

def fn {F : FTy → Type} [FloatOps F] (main_arg0 : FVec F S512x2048 .f32) (main_arg1 : FVec F S2048x5632 .bf16) (main_arg2 : FVec F S2048x5632 .bf16) (main_arg3 : FVec F S5632x2048 .bf16) (main_arg4 : FVec F S1x2048 .f32) (main_arg5 : FVec F S1x2048 .f32) : IVec S512x2048 1 × IVec S2048x5632 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_v3 : FVec F S2048x5632 .f32 := (extf .f32 · bitsLt_bf16_f32) main_arg1
  let main_v4 : FVec F S2048x5632 .f32 := Host.absf main_v3
  let main_cst_0 : FVec F S_ .f32 := constant S_ .f32 0x7F800000#32
  let main_v5 : FVec F S2048x5632 .f32 := broadcastInDim S2048x5632 ![] bcast_S_S2048x5632 main_cst_0
  let main_v6 : IVec S2048x5632 1 := cmpf .olt main_v4 main_v5
  (main_v2, main_v6)
-- ==== InProj.lean ====
abbrev S8192x2048 : Shape := ⟨2, ![8192, 2048]⟩
abbrev S2048x6144 : Shape := ⟨2, ![2048, 6144]⟩
abbrev S1x6144 : Shape := ⟨2, ![1, 6144]⟩
abbrev S8192x6144 : Shape := ⟨2, ![8192, 6144]⟩
abbrev S1024x2048 : Shape := ⟨2, ![1024, 2048]⟩
abbrev S2048x2048 : Shape := ⟨2, ![2048, 2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S2048x6144, .bf16⟩
  | .hbm, ⟨2, _⟩ => ⟨S1x6144, .f32⟩
  | .hbm, ⟨3, _⟩ => ⟨S8192x6144, .f32⟩
  | .local _ .vmem, ⟨0, _⟩ => ⟨S1024x2048, .f32⟩
  | .local _ .vmem, ⟨1, _⟩ => ⟨S1024x2048, .f32⟩
  | .local _ .vmem, ⟨2, _⟩ => ⟨S2048x2048, .bf16⟩
  | .local _ .vmem, ⟨3, _⟩ => ⟨S2048x2048, .bf16⟩
  | .local _ .vmem, ⟨4, _⟩ => ⟨S1x2048, .f32⟩
  | .local _ .vmem, ⟨5, _⟩ => ⟨S1x2048, .f32⟩
  | .local _ .vmem, ⟨6, _⟩ => ⟨S1024x2048, .f32⟩
  | .local _ .vmem, ⟨7, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InRefIdeal.lean ====
abbrev S8192x2048 : Shape := ⟨2, ![8192, 2048]⟩
abbrev S2048x6144 : Shape := ⟨2, ![2048, 6144]⟩
abbrev S1x6144 : Shape := ⟨2, ![1, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x6144, .bf16⟩
  | .hbm, ⟨2, _⟩ => ⟨S1x6144, .f32⟩
  | .hbm, ⟨3, _⟩ => ⟨S2048x6144, .f32⟩
  | .hbm, ⟨4, _⟩ => ⟨S8192x6144, .f32⟩
  | .hbm, ⟨5, _⟩ => ⟨S8192x6144, .f32⟩
  | .hbm, ⟨6, _⟩ => ⟨S8192x6144, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InProjS.lean ====
abbrev S512x2048 : Shape := ⟨2, ![512, 2048]⟩
abbrev S2048x6144 : Shape := ⟨2, ![2048, 6144]⟩
abbrev S1x6144 : Shape := ⟨2, ![1, 6144]⟩
abbrev S512x6144 : Shape := ⟨2, ![512, 6144]⟩
abbrev S2048x512 : Shape := ⟨2, ![2048, 512]⟩
abbrev S1x512 : Shape := ⟨2, ![1, 512]⟩
abbrev S512x512 : Shape := ⟨2, ![512, 512]⟩

abbrev nBuf : Space → Nat
  | .hbm => 5
  | .vmem => 9
  | .smem => 0
  | _ => 0

abbrev bufTy : (tb : Table) → Fin (tcTables nBuf tb) → BufTy
  | .hbm, ⟨0, _⟩ => ⟨S512x2048, .f32⟩
  | .hbm, ⟨1, _⟩ => ⟨S2048x6144, .f32⟩
  | .hbm, ⟨2, _⟩ => ⟨S1x6144, .f32⟩
  | .hbm, ⟨3, _⟩ => ⟨S512x6144, .f32⟩
  | .hbm, ⟨4, _⟩ => ⟨S2048x6144, .bf16⟩
  | .local _ .vmem, ⟨0, _⟩ => ⟨S512x2048, .f32⟩
  | .local _ .vmem, ⟨1, _⟩ => ⟨S2048x512, .f32⟩
  | .local _ .vmem, ⟨2, _⟩ => ⟨S2048x512, .f32⟩
  | .local _ .vmem, ⟨3, _⟩ => ⟨S1x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | .local _ .vmem, ⟨7, _⟩ => ⟨S2048x512, .bf16⟩
  | .local _ .vmem, ⟨8, _⟩ => ⟨S2048x512, .bf16⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== InRefSIdeal.lean ====
abbrev S512x2048 : Shape := ⟨2, ![512, 2048]⟩
abbrev S2048x6144 : Shape := ⟨2, ![2048, 6144]⟩
abbrev S1x6144 : Shape := ⟨2, ![1, 6144]⟩
abbrev S512x6144 : Shape := ⟨2, ![512, 6144]⟩

abbrev nBuf : Space → Nat
  | .hbm => 7
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x6144, .f32⟩
  | .hbm, ⟨2, _⟩ => ⟨S1x6144, .f32⟩
  | .hbm, ⟨3, _⟩ => ⟨S512x6144, .f32⟩
  | .hbm, ⟨4, _⟩ => ⟨S512x6144, .f32⟩
  | .hbm, ⟨5, _⟩ => ⟨S512x6144, .f32⟩
  | .hbm, ⟨6, _⟩ => ⟨S2048x6144, .bf16⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProj.lean ====
abbrev S8192x2048 : Shape := ⟨2, ![8192, 2048]⟩
abbrev S8192x1024 : Shape := ⟨2, ![8192, 1024]⟩
abbrev S2048x2048 : Shape := ⟨2, ![2048, 2048]⟩
abbrev S1x2048 : Shape := ⟨2, ![1, 2048]⟩
abbrev S512x2048 : Shape := ⟨2, ![512, 2048]⟩
abbrev S512x1024 : Shape := ⟨2, ![512, 1024]⟩
abbrev S1024x2048 : Shape := ⟨2, ![1024, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .bf16⟩
  | .hbm, ⟨4, _⟩ => ⟨S1x2048, .f32⟩
  | .hbm, ⟨5, _⟩ => ⟨S1x2048, .f32⟩
  | .hbm, ⟨6, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S1x2048, .f32⟩
  | .local _ .vmem, ⟨10, _⟩ => ⟨S512x2048, .f32⟩
  | .local _ .vmem, ⟨11, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S8192x2048 : Shape := ⟨2, ![8192, 2048]⟩
abbrev S8192x1024 : Shape := ⟨2, ![8192, 1024]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 42
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .bf16⟩
  | .hbm, ⟨2, _⟩ => ⟨S8192x1024, .bf16⟩
  | .hbm, ⟨3, _⟩ => ⟨S2048x2048, .bf16⟩
  | .hbm, ⟨4, _⟩ => ⟨S1x2048, .f32⟩
  | .hbm, ⟨5, _⟩ => ⟨S1x2048, .f32⟩
  | .hbm, ⟨6, _⟩ => ⟨S8192x1024, .f32⟩
  | .hbm, ⟨7, _⟩ => ⟨S8192x1024, .f32⟩
  | .hbm, ⟨8, _⟩ => ⟨S8192x2048, .f32⟩
  | .hbm, ⟨9, _⟩ => ⟨S2048x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Ffn.lean ====
abbrev S8192x2048 : Shape := ⟨2, ![8192, 2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S1x2048, .f32⟩
  | .hbm, ⟨5, _⟩ => ⟨S1x2048, .f32⟩
  | .hbm, ⟨6, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S1x2048, .f32⟩
  | .local _ .vmem, ⟨10, _⟩ => ⟨S1024x2048, .f32⟩
  | .local _ .vmem, ⟨11, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S8192x2048 : Shape := ⟨2, ![8192, 2048]⟩
abbrev S2048x5632 : Shape := ⟨2, ![2048, 5632]⟩
abbrev S5632x2048 : Shape := ⟨2, ![5632, 2048]⟩
abbrev S1x2048 : Shape := ⟨2, ![1, 2048]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S1x2048, .f32⟩
  | .hbm, ⟨5, _⟩ => ⟨S1x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S8192x5632, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x2048, .f32⟩
  | .hbm, ⟨42, _⟩ => ⟨S8192x2048, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== FfnS.lean ====
abbrev S512x2048 : Shape := ⟨2, ![512, 2048]⟩
abbrev S2048x5632 : Shape := ⟨2, ![2048, 5632]⟩
abbrev S5632x2048 : Shape := ⟨2, ![5632, 2048]⟩
abbrev S1x2048 : Shape := ⟨2, ![1, 2048]⟩
abbrev S2048x512 : Shape := ⟨2, ![2048, 512]⟩
abbrev S512x512 : Shape := ⟨2, ![512, 512]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S512x2048, .f32⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S1x2048, .f32⟩
  | .hbm, ⟨5, _⟩ => ⟨S1x2048, .f32⟩
  | .hbm, ⟨6, _⟩ => ⟨S512x2048, .f32⟩
  | .local _ .vmem, ⟨0, _⟩ => ⟨S512x2048, .f32⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== FfnRefSIdeal.lean ====
abbrev S512x2048 : Shape := ⟨2, ![512, 2048]⟩
abbrev S2048x5632 : Shape := ⟨2, ![2048, 5632]⟩
abbrev S5632x2048 : Shape := ⟨2, ![5632, 2048]⟩
abbrev S1x2048 : Shape := ⟨2, ![1, 2048]⟩
abbrev S512x5632 : Shape := ⟨2, ![512, 5632]⟩
abbrev S_ : Shape := ⟨0, ![]⟩
abbrev S512 : Shape := ⟨1, ![512]⟩
abbrev S512x1 : Shape := ⟨2, ![512, 1]⟩

abbrev nBuf : Space → Nat
  | .hbm => 53
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S2048x5632, .bf16⟩
  | .hbm, ⟨2, _⟩ => ⟨S2048x5632, .bf16⟩
  | .hbm, ⟨3, _⟩ => ⟨S5632x2048, .bf16⟩
  | .hbm, ⟨4, _⟩ => ⟨S1x2048, .f32⟩
  | .hbm, ⟨5, _⟩ => ⟨S1x2048, .f32⟩
  | .hbm, ⟨6, _⟩ => ⟨S2048x5632, .f32⟩
  | .hbm, ⟨7, _⟩ => ⟨S2048x5632, .f32⟩
  | .hbm, ⟨8, _⟩ => ⟨S5632x2048, .f32⟩
  | .hbm, ⟨9, _⟩ => ⟨S512x5632, .f32⟩
  | .hbm, ⟨10, _⟩ => ⟨S512x5632, .f32⟩
  | .hbm, ⟨11, _⟩ => ⟨S512x5632, .f32⟩
  | .hbm, ⟨12, _⟩ => ⟨S_, .f32⟩
  | .hbm, ⟨13, _⟩ => ⟨S512x5632, .f32⟩
  | .hbm, ⟨14, _⟩ => ⟨S512x5632, .f32⟩
  | .hbm, ⟨15, _⟩ => ⟨S_, .f32⟩
  | .hbm, ⟨16, _⟩ => ⟨S512x5632, .f32⟩
  | .hbm, ⟨17, _⟩ => ⟨S512x5632, .f32⟩
  | .hbm, ⟨18, _⟩ => ⟨S512x5632, .f32⟩
  | .hbm, ⟨19, _⟩ => ⟨S512x5632, .f32⟩
  | .hbm, ⟨20, _⟩ => ⟨S512x5632, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512, .f32⟩
  | .hbm, ⟨28, _⟩ => ⟨S512x1, .f32⟩
  | .hbm, ⟨29, _⟩ => ⟨S_, .f32⟩
  | .hbm, ⟨30, _⟩ => ⟨S512x1, .f32⟩
  | .hbm, ⟨31, _⟩ => ⟨S512x1, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S_, .f32⟩
  | .hbm, ⟨36, _⟩ => ⟨S512, .f32⟩
  | .hbm, ⟨37, _⟩ => ⟨S512x1, .f32⟩
  | .hbm, ⟨38, _⟩ => ⟨S_, .f32⟩
  | .hbm, ⟨39, _⟩ => ⟨S512x1, .f32⟩
  | .hbm, ⟨40, _⟩ => ⟨S512x1, .f32⟩
  | .hbm, ⟨41, _⟩ => ⟨S512x2048, .f32⟩
  | .hbm, ⟨42, _⟩ => ⟨S512x2048, .f32⟩
  | .hbm, ⟨43, _⟩ => ⟨S_, .f32⟩
  | .hbm, ⟨44, _⟩ => ⟨S512x1, .f32⟩
  | .hbm, ⟨45, _⟩ => ⟨S512x1, .f32⟩
  | .hbm, ⟨46, _⟩ => ⟨S512x1, .f32⟩
  | .hbm, ⟨47, _⟩ => ⟨S512x2048, .f32⟩
  | .hbm, ⟨48, _⟩ => ⟨S512x2048, .f32⟩
  | .hbm, ⟨49, _⟩ => ⟨S512x2048, .f32⟩
  | .hbm, ⟨50, _⟩ => ⟨S512x2048, .f32⟩
  | .hbm, ⟨51, _⟩ => ⟨S512x2048, .f32⟩
  | .hbm, ⟨52, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_cst_1 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]
-- ==== Conv.lean ====
abbrev S512x6144 : Shape := ⟨2, ![512, 6144]⟩
abbrev S32x30x1024 : Shape := ⟨3, ![32, 30, 1024]⟩
abbrev S31x1024 : Shape := ⟨2, ![31, 1024]⟩
abbrev S1x1024 : Shape := ⟨2, ![1, 1024]⟩
abbrev S31x1x1024 : Shape := ⟨3, ![31, 1, 1024]⟩
abbrev S31x8x1024 : Shape := ⟨3, ![31, 8, 1024]⟩
abbrev S512x1024 : Shape := ⟨2, ![512, 1024]⟩
abbrev S64x1024 : Shape := ⟨2, ![64, 1024]⟩
abbrev S4x30x1024 : Shape := ⟨3, ![4, 30, 1024]⟩
abbrev S4x8x48x1024 : Shape := ⟨4, ![4, 8, 48, 1024]⟩
abbrev S8x1024 : Shape := ⟨2, ![8, 1024]⟩
abbrev S1x8x48x1024 : Shape := ⟨4, ![1, 8, 48, 1024]⟩
abbrev S8x48x1024 : Shape := ⟨3, ![8, 48, 1024]⟩
abbrev S1x8x1024 : Shape := ⟨3, ![1, 8, 1024]⟩
abbrev S1x30x1024 : Shape := ⟨3, ![1, 30, 1024]⟩
abbrev S30x1024 : Shape := ⟨2, ![30, 1024]⟩
abbrev S16x1024 : Shape := ⟨2, ![16, 1024]⟩
abbrev S1x16x1024 : Shape := ⟨3, ![1, 16, 1024]⟩
abbrev S1x48x1024 : Shape := ⟨3, ![1, 48, 1024]⟩
abbrev S48x1024 : Shape := ⟨2, ![48, 1024]⟩
abbrev S40x1024 : Shape := ⟨2, ![40, 1024]⟩
abbrev S1x40x1024 : Shape := ⟨3, ![1, 40, 1024]⟩
abbrev S2x8x1024 : Shape := ⟨3, ![2, 8, 1024]⟩
abbrev S16 : Shape := ⟨1, ![16]⟩
abbrev S16x1 : Shape := ⟨2, ![16, 1]⟩

abbrev nBuf : Space → Nat
  | .hbm => 10
  | .vmem => 15
  | .smem => 0
  | _ => 0

abbrev bufTy : (tb : Table) → Fin (tcTables nBuf tb) → BufTy
  | .hbm, ⟨0, _⟩ => ⟨S512x6144, .f32⟩
  | .hbm, ⟨1, _⟩ => ⟨S32x30x1024, .f32⟩
  | .hbm, ⟨2, _⟩ => ⟨S31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S31x1x1024, .f32⟩
  | .hbm, ⟨7, _⟩ => ⟨S31x8x1024, .f32⟩
  | .hbm, ⟨8, _⟩ => ⟨S512x1024, .bf16⟩
  | .hbm, ⟨9, _⟩ => ⟨S32x30x1024, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S4x30x1024, .f32⟩
  | .local _ .vmem, ⟨5, _⟩ => ⟨S4x30x1024, .f32⟩
  | .local _ .vmem, ⟨6, _⟩ => ⟨S31x8x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S64x1024, .bf16⟩
  | .local _ .vmem, ⟨11, _⟩ => ⟨S64x1024, .bf16⟩
  | .local _ .vmem, ⟨12, _⟩ => ⟨S4x30x1024, .f32⟩
  | .local _ .vmem, ⟨13, _⟩ => ⟨S4x30x1024, .f32⟩
  | .local _ .vmem, ⟨14, _⟩ => ⟨S4x8x48x1024, .f32⟩
  | _, _ => ⟨S512x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_363 : BitVec 32 := 0#32
  let v444 : BitVec 1 := Scalar.cmpi .eq arg1 c0_i32_363
  let v445 : BitVec 32 := Scalar.extui v444
  let c0_i32_365 : BitVec 32 := 0#32
  let v446 : BitVec 1 := Scalar.cmpi .ne v445 c0_i32_365
  v446

def k0_cond4 (i : grid0.Coords) : BitVec 1 :=
  let arg1 : BitVec 32 := BitVec.ofNat 32 (i 1).val
  let c0_i32_769 : BitVec 32 := 0#32
  let v891 : BitVec 1 := Scalar.cmpi .eq arg1 c0_i32_769
  let v892 : BitVec 32 := Scalar.extui v891
  let c0_i32_771 : BitVec 32 := 0#32
  let v893 : BitVec 1 := Scalar.cmpi .ne v892 c0_i32_771
  v893

def k0_cond6 (i : grid0.Coords) : BitVec 1 :=
  let arg1 : BitVec 32 := BitVec.ofNat 32 (i 1).val
  let c0_i32_1175 : BitVec 32 := 0#32
  let v1338 : BitVec 1 := Scalar.cmpi .eq arg1 c0_i32_1175
  let v1339 : BitVec 32 := Scalar.extui v1338
  let c0_i32_1177 : BitVec 32 := 0#32
  let v1340 : BitVec 1 := Scalar.cmpi .ne v1339 c0_i32_1177
  v1340

def k0_cond8 (i : grid0.Coords) : BitVec 1 :=
  let arg1 : BitVec 32 := BitVec.ofNat 32 (i 1).val
  let c0_i32_1580 : BitVec 32 := 0#32
  let v1785 : BitVec 1 := Scalar.cmpi .eq arg1 c0_i32_1580
  let v1786 : BitVec 32 := Scalar.extui v1785
  let c0_i32_1582 : BitVec 32 := 0#32
  let v1787 : BitVec 1 := Scalar.cmpi .ne v1786 c0_i32_1582
  v1787

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c1_i32_0 : BitVec 32 := 1#32
  let c0_i32 : BitVec 32 := 0#32
  ![v1.toNat, c1_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x30x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S31x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x30x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ConvRefIdeal.lean ====
abbrev S512x6144 : Shape := ⟨2, ![512, 6144]⟩
abbrev S32x30x1024 : Shape := ⟨3, ![32, 30, 1024]⟩
abbrev S31x1024 : Shape := ⟨2, ![31, 1024]⟩
abbrev S1x1024 : Shape := ⟨2, ![1, 1024]⟩
abbrev S512x1024 : Shape := ⟨2, ![512, 1024]⟩
abbrev S32x16x1024 : Shape := ⟨3, ![32, 16, 1024]⟩
abbrev S_ : Shape := ⟨0, ![]⟩
abbrev S32x46x1024 : Shape := ⟨3, ![32, 46, 1024]⟩
abbrev S1024 : Shape := ⟨1, ![1024]⟩
abbrev S1x1x1024 : Shape := ⟨3, ![1, 1, 1024]⟩
abbrev S32x16 : Shape := ⟨2, ![32, 16]⟩
abbrev S32x16x1 : Shape := ⟨3, ![32, 16, 1]⟩

abbrev nBuf : Space → Nat
  | .hbm => 280
  | .vmem => 0
  | .smem => 0
  | _ => 0

abbrev hbmTy0_0 (i : Nat) : BufTy := match i % 128 with
  | 0 => ⟨S512x6144, .f32⟩
  | 1 => ⟨S32x30x1024, .f32⟩
  | 2 => ⟨S31x1024, .f32⟩
  | 3 => ⟨S1x1024, .f32⟩
  | 4 => ⟨S1x1024, .f32⟩
  | 5 => ⟨S1x1024, .f32⟩
  | 6 => ⟨S512x1024, .f32⟩
  | 7 => ⟨S32x16x1024, .f32⟩
  | 8 => ⟨S512x1024, .f32⟩
  | 9 => ⟨S32x16x1024, .f32⟩
  | 10 => ⟨S32x16x1024, .f32⟩
  | 11 => ⟨S32x16x1024, .f32⟩
  | 12 => ⟨S_, .f32⟩
  | 13 => ⟨S32x16x1024, .f32⟩
  | 14 => ⟨S32x16x1024, .f32⟩
  | 15 => ⟨S_, .f32⟩
  | 16 => ⟨S32x16x1024, .f32⟩
  | 17 => ⟨S32x16x1024, .f32⟩
  | 18 => ⟨S32x16x1024, .f32⟩
  | 19 => ⟨S32x46x1024, .f32⟩
  | 20 => ⟨S32x16x1024, .f32⟩
  | 21 => ⟨S1x1024, .f32⟩
  | 22 => ⟨S1024, .f32⟩
  | 23 => ⟨S1x1x1024, .f32⟩
  | 24 => ⟨S32x16x1024, .f32⟩
  | 25 => ⟨S32x16x1024, .f32⟩
  | 26 => ⟨S32x16x1024, .f32⟩
  | 27 => ⟨S1x1024, .f32⟩
  | 28 => ⟨S1024, .f32⟩
  | 29 => ⟨S1x1x1024, .f32⟩
  | 30 => ⟨S32x16x1024, .f32⟩
  | 31 => ⟨S32x16x1024, .f32⟩
  | 32 => ⟨S32x16x1024, .f32⟩
  | 33 => ⟨S32x16x1024, .f32⟩
  | 34 => ⟨S1x1024, .f32⟩
  | 35 => ⟨S1024, .f32⟩
  | 36 => ⟨S1x1x1024, .f32⟩
  | 37 => ⟨S32x16x1024, .f32⟩
  | 38 => ⟨S32x16x1024, .f32⟩
  | 39 => ⟨S32x16x1024, .f32⟩
  | 40 => ⟨S32x16x1024, .f32⟩
  | 41 => ⟨S1x1024, .f32⟩
  | 42 => ⟨S1024, .f32⟩
  | 43 => ⟨S1x1x1024, .f32⟩
  | 44 => ⟨S32x16x1024, .f32⟩
  | 45 => ⟨S32x16x1024, .f32⟩
  | 46 => ⟨S32x16x1024, .f32⟩
  | 47 => ⟨S32x16x1024, .f32⟩
  | 48 => ⟨S1x1024, .f32⟩
  | 49 => ⟨S1024, .f32⟩
  | 50 => ⟨S1x1x1024, .f32⟩
  | 51 => ⟨S32x16x1024, .f32⟩
  | 52 => ⟨S32x16x1024, .f32⟩
  | 53 => ⟨S32x16x1024, .f32⟩
  | 54 => ⟨S32x16x1024, .f32⟩
  | 55 => ⟨S1x1024, .f32⟩
  | 56 => ⟨S1024, .f32⟩
  | 57 => ⟨S1x1x1024, .f32⟩
  | 58 => ⟨S32x16x1024, .f32⟩
  | 59 => ⟨S32x16x1024, .f32⟩
  | 60 => ⟨S32x16x1024, .f32⟩
  | 61 => ⟨S32x16x1024, .f32⟩
  | 62 => ⟨S1x1024, .f32⟩
  | 63 => ⟨S1024, .f32⟩
  | 64 => ⟨S1x1x1024, .f32⟩
  | 65 => ⟨S32x16x1024, .f32⟩
  | 66 => ⟨S32x16x1024, .f32⟩
  | 67 => ⟨S32x16x1024, .f32⟩
  | 68 => ⟨S32x16x1024, .f32⟩
  | 69 => ⟨S1x1024, .f32⟩
  | 70 => ⟨S1024, .f32⟩
  | 71 => ⟨S1x1x1024, .f32⟩
  | 72 => ⟨S32x16x1024, .f32⟩
  | 73 => ⟨S32x16x1024, .f32⟩
  | 74 => ⟨S32x16x1024, .f32⟩
  | 75 => ⟨S32x16x1024, .f32⟩
  | 76 => ⟨S1x1024, .f32⟩
  | 77 => ⟨S1024, .f32⟩
  | 78 => ⟨S1x1x1024, .f32⟩
  | 79 => ⟨S32x16x1024, .f32⟩
  | 80 => ⟨S32x16x1024, .f32⟩
  | 81 => ⟨S32x16x1024, .f32⟩
  | 82 => ⟨S32x16x1024, .f32⟩
  | 83 => ⟨S1x1024, .f32⟩
  | 84 => ⟨S1024, .f32⟩
  | 85 => ⟨S1x1x1024, .f32⟩
  | 86 => ⟨S32x16x1024, .f32⟩
  | 87 => ⟨S32x16x1024, .f32⟩
  | 88 => ⟨S32x16x1024, .f32⟩
  | 89 => ⟨S32x16x1024, .f32⟩
  | 90 => ⟨S1x1024, .f32⟩
  | 91 => ⟨S1024, .f32⟩
  | 92 => ⟨S1x1x1024, .f32⟩
  | 93 => ⟨S32x16x1024, .f32⟩
  | 94 => ⟨S32x16x1024, .f32⟩
  | 95 => ⟨S32x16x1024, .f32⟩
  | 96 => ⟨S32x16x1024, .f32⟩
  | 97 => ⟨S1x1024, .f32⟩
  | 98 => ⟨S1024, .f32⟩
  | 99 => ⟨S1x1x1024, .f32⟩
  | 100 => ⟨S32x16x1024, .f32⟩
  | 101 => ⟨S32x16x1024, .f32⟩
  | 102 => ⟨S32x16x1024, .f32⟩
  | 103 => ⟨S32x16x1024, .f32⟩
  | 104 => ⟨S1x1024, .f32⟩
  | 105 => ⟨S1024, .f32⟩
  | 106 => ⟨S1x1x1024, .f32⟩
  | 107 => ⟨S32x16x1024, .f32⟩
  | 108 => ⟨S32x16x1024, .f32⟩
  | 109 => ⟨S32x16x1024, .f32⟩
  | 110 => ⟨S32x16x1024, .f32⟩
  | 111 => ⟨S1x1024, .f32⟩
  | 112 => ⟨S1024, .f32⟩
  | 113 => ⟨S1x1x1024, .f32⟩
  | 114 => ⟨S32x16x1024, .f32⟩
  | 115 => ⟨S32x16x1024, .f32⟩
  | 116 => ⟨S32x16x1024, .f32⟩
  | 117 => ⟨S32x16x1024, .f32⟩
  | 118 => ⟨S1x1024, .f32⟩
  | 119 => ⟨S1024, .f32⟩
  | 120 => ⟨S1x1x1024, .f32⟩
  | 121 => ⟨S32x16x1024, .f32⟩
  | 122 => ⟨S32x16x1024, .f32⟩
  | 123 => ⟨S32x16x1024, .f32⟩
  | 124 => ⟨S32x16x1024, .f32⟩
  | 125 => ⟨S1x1024, .f32⟩
  | 126 => ⟨S1024, .f32⟩
  | 127 => ⟨S1x1x1024, .f32⟩
  | _ => ⟨S512x6144, .f32⟩

abbrev hbmTy0_1 (i : Nat) : BufTy := match i % 128 with
  | 0 => ⟨S32x16x1024, .f32⟩
  | 1 => ⟨S32x16x1024, .f32⟩
  | 2 => ⟨S32x16x1024, .f32⟩
  | 3 => ⟨S32x16x1024, .f32⟩
  | 4 => ⟨S1x1024, .f32⟩
  | 5 => ⟨S1024, .f32⟩
  | 6 => ⟨S1x1x1024, .f32⟩
  | 7 => ⟨S32x16x1024, .f32⟩
  | 8 => ⟨S32x16x1024, .f32⟩
  | 9 => ⟨S32x16x1024, .f32⟩
  | 10 => ⟨S32x16x1024, .f32⟩
  | 11 => ⟨S1x1024, .f32⟩
  | 12 => ⟨S1024, .f32⟩
  | 13 => ⟨S1x1x1024, .f32⟩
  | 14 => ⟨S32x16x1024, .f32⟩
  | 15 => ⟨S32x16x1024, .f32⟩
  | 16 => ⟨S32x16x1024, .f32⟩
  | 17 => ⟨S32x16x1024, .f32⟩
  | 18 => ⟨S1x1024, .f32⟩
  | 19 => ⟨S1024, .f32⟩
  | 20 => ⟨S1x1x1024, .f32⟩
  | 21 => ⟨S32x16x1024, .f32⟩
  | 22 => ⟨S32x16x1024, .f32⟩
  | 23 => ⟨S32x16x1024, .f32⟩
  | 24 => ⟨S32x16x1024, .f32⟩
  | 25 => ⟨S1x1024, .f32⟩
  | 26 => ⟨S1024, .f32⟩
  | 27 => ⟨S1x1x1024, .f32⟩
  | 28 => ⟨S32x16x1024, .f32⟩
  | 29 => ⟨S32x16x1024, .f32⟩
  | 30 => ⟨S32x16x1024, .f32⟩
  | 31 => ⟨S32x16x1024, .f32⟩
  | 32 => ⟨S1x1024, .f32⟩
  | 33 => ⟨S1024, .f32⟩
  | 34 => ⟨S1x1x1024, .f32⟩
  | 35 => ⟨S32x16x1024, .f32⟩
  | 36 => ⟨S32x16x1024, .f32⟩
  | 37 => ⟨S32x16x1024, .f32⟩
  | 38 => ⟨S32x16x1024, .f32⟩
  | 39 => ⟨S1x1024, .f32⟩
  | 40 => ⟨S1024, .f32⟩
  | 41 => ⟨S1x1x1024, .f32⟩
  | 42 => ⟨S32x16x1024, .f32⟩
  | 43 => ⟨S32x16x1024, .f32⟩
  | 44 => ⟨S32x16x1024, .f32⟩
  | 45 => ⟨S32x16x1024, .f32⟩
  | 46 => ⟨S1x1024, .f32⟩
  | 47 => ⟨S1024, .f32⟩
  | 48 => ⟨S1x1x1024, .f32⟩
  | 49 => ⟨S32x16x1024, .f32⟩
  | 50 => ⟨S32x16x1024, .f32⟩
  | 51 => ⟨S32x16x1024, .f32⟩
  | 52 => ⟨S32x16x1024, .f32⟩
  | 53 => ⟨S1x1024, .f32⟩
  | 54 => ⟨S1024, .f32⟩
  | 55 => ⟨S1x1x1024, .f32⟩
  | 56 => ⟨S32x16x1024, .f32⟩
  | 57 => ⟨S32x16x1024, .f32⟩
  | 58 => ⟨S32x16x1024, .f32⟩
  | 59 => ⟨S32x16x1024, .f32⟩
  | 60 => ⟨S1x1024, .f32⟩
  | 61 => ⟨S1024, .f32⟩
  | 62 => ⟨S1x1x1024, .f32⟩
  | 63 => ⟨S32x16x1024, .f32⟩
  | 64 => ⟨S32x16x1024, .f32⟩
  | 65 => ⟨S32x16x1024, .f32⟩
  | 66 => ⟨S32x16x1024, .f32⟩
  | 67 => ⟨S1x1024, .f32⟩
  | 68 => ⟨S1024, .f32⟩
  | 69 => ⟨S1x1x1024, .f32⟩
  | 70 => ⟨S32x16x1024, .f32⟩
  | 71 => ⟨S32x16x1024, .f32⟩
  | 72 => ⟨S32x16x1024, .f32⟩
  | 73 => ⟨S32x16x1024, .f32⟩
  | 74 => ⟨S1x1024, .f32⟩
  | 75 => ⟨S1024, .f32⟩
  | 76 => ⟨S1x1x1024, .f32⟩
  | 77 => ⟨S32x16x1024, .f32⟩
  | 78 => ⟨S32x16x1024, .f32⟩
  | 79 => ⟨S32x16x1024, .f32⟩
  | 80 => ⟨S32x16x1024, .f32⟩
  | 81 => ⟨S1x1024, .f32⟩
  | 82 => ⟨S1024, .f32⟩
  | 83 => ⟨S1x1x1024, .f32⟩
  | 84 => ⟨S32x16x1024, .f32⟩
  | 85 => ⟨S32x16x1024, .f32⟩
  | 86 => ⟨S32x16x1024, .f32⟩
  | 87 => ⟨S32x16x1024, .f32⟩
  | 88 => ⟨S1x1024, .f32⟩
  | 89 => ⟨S1024, .f32⟩
  | 90 => ⟨S1x1x1024, .f32⟩
  | 91 => ⟨S32x16x1024, .f32⟩
  | 92 => ⟨S32x16x1024, .f32⟩
  | 93 => ⟨S32x16x1024, .f32⟩
  | 94 => ⟨S32x16x1024, .f32⟩
  | 95 => ⟨S1x1024, .f32⟩
  | 96 => ⟨S1024, .f32⟩
  | 97 => ⟨S1x1x1024, .f32⟩
  | 98 => ⟨S32x16x1024, .f32⟩
  | 99 => ⟨S32x16x1024, .f32⟩
  | 100 => ⟨S32x16x1024, .f32⟩
  | 101 => ⟨S32x16x1024, .f32⟩
  | 102 => ⟨S1x1024, .f32⟩
  | 103 => ⟨S1024, .f32⟩
  | 104 => ⟨S1x1x1024, .f32⟩
  | 105 => ⟨S32x16x1024, .f32⟩
  | 106 => ⟨S32x16x1024, .f32⟩
  | 107 => ⟨S32x16x1024, .f32⟩
  | 108 => ⟨S1x1x1024, .f32⟩
  | 109 => ⟨S32x16x1024, .f32⟩
  | 110 => ⟨S32x16x1024, .f32⟩
  | 111 => ⟨S_, .f32⟩
  | 112 => ⟨S32x16, .f32⟩
  | 113 => ⟨S32x16x1, .f32⟩
  | 114 => ⟨S_, .f32⟩
  | 115 => ⟨S32x16x1, .f32⟩
  | 116 => ⟨S32x16x1, .f32⟩
  | 117 => ⟨S32x16x1024, .f32⟩
  | 118 => ⟨S32x16x1024, .f32⟩
  | 119 => ⟨S32x16x1024, .f32⟩
  | 120 => ⟨S_, .f32⟩
  | 121 => ⟨S32x16, .f32⟩
  | 122 => ⟨S32x16x1, .f32⟩
  | 123 => ⟨S_, .f32⟩
  | 124 => ⟨S32x16x1, .f32⟩
  | 125 => ⟨S32x16x1, .f32⟩
  | 126 => ⟨S32x16x1024, .f32⟩
  | 127 => ⟨S32x16x1024, .f32⟩
  | _ => ⟨S512x6144, .f32⟩

abbrev hbmTy0_2 (i : Nat) : BufTy := match i % 128 with
  | 0 => ⟨S_, .f32⟩
  | 1 => ⟨S32x16x1, .f32⟩
  | 2 => ⟨S32x16x1, .f32⟩
  | 3 => ⟨S32x16x1, .f32⟩
  | 4 => ⟨S32x16x1024, .f32⟩
  | 5 => ⟨S32x16x1024, .f32⟩
  | 6 => ⟨S1x1x1024, .f32⟩
  | 7 => ⟨S32x16x1024, .f32⟩
  | 8 => ⟨S32x16x1024, .f32⟩
  | 9 => ⟨S1x1x1024, .f32⟩
  | 10 => ⟨S32x16x1024, .f32⟩
  | 11 => ⟨S32x16x1024, .f32⟩
  | 12 => ⟨S32x16x1024, .f32⟩
  | 13 => ⟨S32x16x1024, .f32⟩
  | 14 => ⟨S_, .f32⟩
  | 15 => ⟨S32x16x1024, .f32⟩
  | 16 => ⟨S32x16x1024, .f32⟩
  | 17 => ⟨S_, .f32⟩
  | 18 => ⟨S32x16x1024, .f32⟩
  | 19 => ⟨S32x16x1024, .f32⟩
  | 20 => ⟨S32x16x1024, .f32⟩
  | 21 => ⟨S512x1024, .f32⟩
  | 22 => ⟨S512x1024, .bf16⟩
  | 23 => ⟨S32x30x1024, .f32⟩
  | _ => ⟨S512x6144, .f32⟩

abbrev hbmTy (i : Nat) : BufTy := match i / 128 with
  | 0 => hbmTy0_0 i
  | 1 => hbmTy0_1 i
  | 2 => hbmTy0_2 i
  | _ => ⟨S512x6144, .f32⟩

abbrev bufTy : (tb : Table) → Fin (tcTables nBuf tb) → BufTy
  | .hbm, ⟨i, _⟩ => hbmTy i
  | _, _ => ⟨S512x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_v167 : Ref sig .tc := ⟨.hbm, 175, rfl⟩
abbrev main_v168 : Ref sig .tc := ⟨.hbm, 176, rfl⟩
abbrev main_v169 : Ref sig .tc := ⟨.hbm, 177, rfl⟩
abbrev main_v170 : Ref sig .tc := ⟨.hbm, 178, rfl⟩
abbrev main_v171 : Ref sig .tc := ⟨.hbm, 179, rfl⟩
abbrev main_v172 : Ref sig .tc := ⟨.hbm, 180, rfl⟩
abbrev main_v173 : Ref sig .tc := ⟨.hbm, 181, rfl⟩
abbrev main_v174 : Ref sig .tc := ⟨.hbm, 182, rfl⟩
abbrev main_v175 : Ref sig .tc := ⟨.hbm, 183, rfl⟩
abbrev main_v176 : Ref sig .tc := ⟨.hbm, 184, rfl⟩
abbrev main_v177 : Ref sig .tc := ⟨.hbm, 185, rfl⟩
abbrev main_v178 : Ref sig .tc := ⟨.hbm, 186, rfl⟩
abbrev main_v179 : Ref sig .tc := ⟨.hbm, 187, rfl⟩
abbrev main_v180 : Ref sig .tc := ⟨.hbm, 188, rfl⟩
abbrev main_v181 : Ref sig .tc := ⟨.hbm, 189, rfl⟩
abbrev main_v182 : Ref sig .tc := ⟨.hbm, 190, rfl⟩
abbrev main_v183 : Ref sig .tc := ⟨.hbm, 191, rfl⟩
abbrev main_v184 : Ref sig .tc := ⟨.hbm, 192, rfl⟩
abbrev main_v185 : Ref sig .tc := ⟨.hbm, 193, rfl⟩
abbrev main_v186 : Ref sig .tc := ⟨.hbm, 194, rfl⟩
abbrev main_v187 : Ref sig .tc := ⟨.hbm, 195, rfl⟩
abbrev main_v188 : Ref sig .tc := ⟨.hbm, 196, rfl⟩
abbrev main_v189 : Ref sig .tc := ⟨.hbm, 197, rfl⟩
abbrev main_v190 : Ref sig .tc := ⟨.hbm, 198, rfl⟩
abbrev main_v191 : Ref sig .tc := ⟨.hbm, 199, rfl⟩
abbrev main_v192 : Ref sig .tc := ⟨.hbm, 200, rfl⟩
abbrev main_v193 : Ref sig .tc := ⟨.hbm, 201, rfl⟩
abbrev main_v194 : Ref sig .tc := ⟨.hbm, 202, rfl⟩
abbrev main_v195 : Ref sig .tc := ⟨.hbm, 203, rfl⟩
abbrev main_v196 : Ref sig .tc := ⟨.hbm, 204, rfl⟩
abbrev main_v197 : Ref sig .tc := ⟨.hbm, 205, rfl⟩
abbrev main_v198 : Ref sig .tc := ⟨.hbm, 206, rfl⟩
abbrev main_v199 : Ref sig .tc := ⟨.hbm, 207, rfl⟩
abbrev main_v200 : Ref sig .tc := ⟨.hbm, 208, rfl⟩
abbrev main_v201 : Ref sig .tc := ⟨.hbm, 209, rfl⟩
abbrev main_v202 : Ref sig .tc := ⟨.hbm, 210, rfl⟩
abbrev main_v203 : Ref sig .tc := ⟨.hbm, 211, rfl⟩
abbrev main_v204 : Ref sig .tc := ⟨.hbm, 212, rfl⟩
abbrev main_v205 : Ref sig .tc := ⟨.hbm, 213, rfl⟩
abbrev main_v206 : Ref sig .tc := ⟨.hbm, 214, rfl⟩
abbrev main_v207 : Ref sig .tc := ⟨.hbm, 215, rfl⟩
abbrev main_v208 : Ref sig .tc := ⟨.hbm, 216, rfl⟩
abbrev main_v209 : Ref sig .tc := ⟨.hbm, 217, rfl⟩
abbrev main_v210 : Ref sig .tc := ⟨.hbm, 218, rfl⟩
abbrev main_v211 : Ref sig .tc := ⟨.hbm, 219, rfl⟩
abbrev main_v212 : Ref sig .tc := ⟨.hbm, 220, rfl⟩
abbrev main_v213 : Ref sig .tc := ⟨.hbm, 221, rfl⟩
abbrev main_v214 : Ref sig .tc := ⟨.hbm, 222, rfl⟩
abbrev main_v215 : Ref sig .tc := ⟨.hbm, 223, rfl⟩
abbrev main_v216 : Ref sig .tc := ⟨.hbm, 224, rfl⟩
abbrev main_v217 : Ref sig .tc := ⟨.hbm, 225, rfl⟩
abbrev main_v218 : Ref sig .tc := ⟨.hbm, 226, rfl⟩
abbrev main_v219 : Ref sig .tc := ⟨.hbm, 227, rfl⟩
abbrev main_v220 : Ref sig .tc := ⟨.hbm, 228, rfl⟩
abbrev main_v221 : Ref sig .tc := ⟨.hbm, 229, rfl⟩
abbrev main_v222 : Ref sig .tc := ⟨.hbm, 230, rfl⟩
abbrev main_v223 : Ref sig .tc := ⟨.hbm, 231, rfl⟩
abbrev main_v224 : Ref sig .tc := ⟨.hbm, 232, rfl⟩
abbrev main_v225 : Ref sig .tc := ⟨.hbm, 233, rfl⟩
abbrev main_v226 : Ref sig .tc := ⟨.hbm, 234, rfl⟩
abbrev main_v227 : Ref sig .tc := ⟨.hbm, 235, rfl⟩
abbrev main_v228 : Ref sig .tc := ⟨.hbm, 236, rfl⟩
abbrev main_v229 : Ref sig .tc := ⟨.hbm, 237, rfl⟩
abbrev main_v230 : Ref sig .tc := ⟨.hbm, 238, rfl⟩
abbrev main_cst_1 : Ref sig .tc := ⟨.hbm, 239, rfl⟩
abbrev main_v231 : Ref sig .tc := ⟨.hbm, 240, rfl⟩
abbrev main_v232 : Ref sig .tc := ⟨.hbm, 241, rfl⟩
abbrev main_cst_2 : Ref sig .tc := ⟨.hbm, 242, rfl⟩
abbrev main_v233 : Ref sig .tc := ⟨.hbm, 243, rfl⟩
abbrev main_v234 : Ref sig .tc := ⟨.hbm, 244, rfl⟩
abbrev main_v235 : Ref sig .tc := ⟨.hbm, 245, rfl⟩
abbrev main_v236 : Ref sig .tc := ⟨.hbm, 246, rfl⟩
abbrev main_v237 : Ref sig .tc := ⟨.hbm, 247, rfl⟩
abbrev main_cst_3 : Ref sig .tc := ⟨.hbm, 248, rfl⟩
abbrev main_v238 : Ref sig .tc := ⟨.hbm, 249, rfl⟩
abbrev main_v239 : Ref sig .tc := ⟨.hbm, 250, rfl⟩
abbrev main_cst_4 : Ref sig .tc := ⟨.hbm, 251, rfl⟩
abbrev main_v240 : Ref sig .tc := ⟨.hbm, 252, rfl⟩
abbrev main_v241 : Ref sig .tc := ⟨.hbm, 253, rfl⟩
abbrev main_v242 : Ref sig .tc := ⟨.hbm, 254, rfl⟩
abbrev main_v243 : Ref sig .tc := ⟨.hbm, 255, rfl⟩
abbrev main_cst_5 : Ref sig .tc := ⟨.hbm, 256, rfl⟩
abbrev main_v244 : Ref sig .tc := ⟨.hbm, 257, rfl⟩
abbrev main_v245 : Ref sig .tc := ⟨.hbm, 258, rfl⟩
abbrev main_v246 : Ref sig .tc := ⟨.hbm, 259, rfl⟩
abbrev main_v247 : Ref sig .tc := ⟨.hbm, 260, rfl⟩
abbrev main_v248 : Ref sig .tc := ⟨.hbm, 261, rfl⟩
abbrev main_v249 : Ref sig .tc := ⟨.hbm, 262, rfl⟩
abbrev main_v250 : Ref sig .tc := ⟨.hbm, 263, rfl⟩
abbrev main_v251 : Ref sig .tc := ⟨.hbm, 264, rfl⟩
abbrev main_v252 : Ref sig .tc := ⟨.hbm, 265, rfl⟩
abbrev main_v253 : Ref sig .tc := ⟨.hbm, 266, rfl⟩
abbrev main_v254 : Ref sig .tc := ⟨.hbm, 267, rfl⟩
abbrev main_call0_v0 : Ref sig .tc := ⟨.hbm, 268, rfl⟩
abbrev main_call0_v1 : Ref sig .tc := ⟨.hbm, 269, rfl⟩
abbrev main_call0_cst : Ref sig .tc := ⟨.hbm, 270, rfl⟩
abbrev main_call0_v2 : Ref sig .tc := ⟨.hbm, 271, rfl⟩
abbrev main_call0_v3 : Ref sig .tc := ⟨.hbm, 272, rfl⟩
abbrev main_call0_cst_0 : Ref sig .tc := ⟨.hbm, 273, rfl⟩
abbrev main_call0_v4 : Ref sig .tc := ⟨.hbm, 274, rfl⟩
abbrev main_call0_v5 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩

abbrev nD : Nat := 1
abbrev τ : Topo := Topo.v7x

variable {F : FTy → Type} [FloatOps F]
-- ==== ConvP.lean ====
abbrev S8192x6144 : Shape := ⟨2, ![8192, 6144]⟩
abbrev S4x30x1024 : Shape := ⟨3, ![4, 30, 1024]⟩
abbrev S31x1024 : Shape := ⟨2, ![31, 1024]⟩
abbrev S1x1024 : Shape := ⟨2, ![1, 1024]⟩
abbrev S2048x2048 : Shape := ⟨2, ![2048, 2048]⟩
abbrev S2048x5632 : Shape := ⟨2, ![2048, 5632]⟩
abbrev S5632x2048 : Shape := ⟨2, ![5632, 2048]⟩
abbrev S31x1x1024 : Shape := ⟨3, ![31, 1, 1024]⟩
abbrev S31x8x1024 : Shape := ⟨3, ![31, 8, 1024]⟩
abbrev S8192x1024 : Shape := ⟨2, ![8192, 1024]⟩
abbrev S256x1024 : Shape := ⟨2, ![256, 1024]⟩
abbrev S1x30x1024 : Shape := ⟨3, ![1, 30, 1024]⟩
abbrev S64x2048 : Shape := ⟨2, ![64, 2048]⟩
abbrev S64x5632 : Shape := ⟨2, ![64, 5632]⟩
abbrev S176x2048 : Shape := ⟨2, ![176, 2048]⟩
abbrev S1x8x288x1024 : Shape := ⟨4, ![1, 8, 288, 1024]⟩
abbrev S8x1024 : Shape := ⟨2, ![8, 1024]⟩
abbrev S8x288x1024 : Shape := ⟨3, ![8, 288, 1024]⟩
abbrev S1x8x1024 : Shape := ⟨3, ![1, 8, 1024]⟩
abbrev S30x1024 : Shape := ⟨2, ![30, 1024]⟩
abbrev S1x256x1024 : Shape := ⟨3, ![1, 256, 1024]⟩
abbrev S1x48x1024 : Shape := ⟨3, ![1, 48, 1024]⟩
abbrev S48x1024 : Shape := ⟨2, ![48, 1024]⟩
abbrev S40x1024 : Shape := ⟨2, ![40, 1024]⟩
abbrev S1x40x1024 : Shape := ⟨3, ![1, 40, 1024]⟩
abbrev S1x32x1024 : Shape := ⟨3, ![1, 32, 1024]⟩
abbrev S32x1024 : Shape := ⟨2, ![32, 1024]⟩
abbrev S4x8x1024 : Shape := ⟨3, ![4, 8, 1024]⟩
abbrev S32 : Shape := ⟨1, ![32]⟩
abbrev S32x1 : Shape := ⟨2, ![32, 1]⟩

abbrev nBuf : Space → Nat
  | .hbm => 18
  | .vmem => 31
  | .smem => 0
  | _ => 0

abbrev bufTy : (tb : Table) → Fin (tcTables nBuf tb) → BufTy
  | .hbm, ⟨0, _⟩ => ⟨S8192x6144, .f32⟩
  | .hbm, ⟨1, _⟩ => ⟨S4x30x1024, .f32⟩
  | .hbm, ⟨2, _⟩ => ⟨S31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2048x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S31x1x1024, .f32⟩
  | .hbm, ⟨11, _⟩ => ⟨S31x8x1024, .f32⟩
  | .hbm, ⟨12, _⟩ => ⟨S8192x1024, .bf16⟩
  | .hbm, ⟨13, _⟩ => ⟨S4x30x1024, .f32⟩
  | .hbm, ⟨14, _⟩ => ⟨S2048x2048, .bf16⟩
  | .hbm, ⟨15, _⟩ => ⟨S2048x5632, .bf16⟩
  | .hbm, ⟨16, _⟩ => ⟨S2048x5632, .bf16⟩
  | .hbm, ⟨17, _⟩ => ⟨S5632x2048, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x30x1024, .f32⟩
  | .local _ .vmem, ⟨5, _⟩ => ⟨S1x30x1024, .f32⟩
  | .local _ .vmem, ⟨6, _⟩ => ⟨S31x8x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S64x2048, .f32⟩
  | .local _ .vmem, ⟨11, _⟩ => ⟨S64x2048, .f32⟩
  | .local _ .vmem, ⟨12, _⟩ => ⟨S64x5632, .f32⟩
  | .local _ .vmem, ⟨13, _⟩ => ⟨S64x5632, .f32⟩
  | .local _ .vmem, ⟨14, _⟩ => ⟨S64x5632, .f32⟩
  | .local _ .vmem, ⟨15, _⟩ => ⟨S64x5632, .f32⟩
  | .local _ .vmem, ⟨16, _⟩ => ⟨S176x2048, .f32⟩
  | .local _ .vmem, ⟨17, _⟩ => ⟨S176x2048, .f32⟩
  | .local _ .vmem, ⟨18, _⟩ => ⟨S256x1024, .bf16⟩
  | .local _ .vmem, ⟨19, _⟩ => ⟨S256x1024, .bf16⟩
  | .local _ .vmem, ⟨20, _⟩ => ⟨S1x30x1024, .f32⟩
  | .local _ .vmem, ⟨21, _⟩ => ⟨S1x30x1024, .f32⟩
  | .local _ .vmem, ⟨22, _⟩ => ⟨S64x2048, .bf16⟩
  | .local _ .vmem, ⟨23, _⟩ => ⟨S64x2048, .bf16⟩
  | .local _ .vmem, ⟨24, _⟩ => ⟨S64x5632, .bf16⟩
  | .local _ .vmem, ⟨25, _⟩ => ⟨S64x5632, .bf16⟩
  | .local _ .vmem, ⟨26, _⟩ => ⟨S64x5632, .bf16⟩
  | .local _ .vmem, ⟨27, _⟩ => ⟨S64x5632, .bf16⟩
  | .local _ .vmem, ⟨28, _⟩ => ⟨S176x2048, .bf16⟩
  | .local _ .vmem, ⟨29, _⟩ => ⟨S176x2048, .bf16⟩
  | .local _ .vmem, ⟨30, _⟩ => ⟨S1x8x288x1024, .f32⟩
  | _, _ => ⟨S8192x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2_0 : Ref sig .tc := ⟨.hbm, 12, rfl⟩
abbrev main_v2_1 : Ref sig .tc := ⟨.hbm, 13, rfl⟩
abbrev main_v2_2 : Ref sig .tc := ⟨.hbm, 14, rfl⟩
abbrev main_v2_3 : Ref sig .tc := ⟨.hbm, 15, rfl⟩
abbrev main_v2_4 : Ref sig .tc := ⟨.hbm, 16, rfl⟩
abbrev main_v2_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v3385 : BitVec 1 := Scalar.cmpi .eq arg1 c7_i32
  let v3386 : BitVec 32 := Scalar.extui v3385
  let c0_i32_2998 : BitVec 32 := 0#32
  let v3387 : BitVec 1 := Scalar.cmpi .ne v3386 c0_i32_2998
  v3387

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c1_i32 : BitVec 32 := 1#32
  let c0_i32 : BitVec 32 := 0#32
  ![v1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x30x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S31x8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x5632 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S64x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S176x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x30x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S64x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S64x5632 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x5632 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S176x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== ConvRefPIdeal.lean ====
abbrev S8192x6144 : Shape := ⟨2, ![8192, 6144]⟩
abbrev S4x30x1024 : Shape := ⟨3, ![4, 30, 1024]⟩
abbrev S31x1024 : Shape := ⟨2, ![31, 1024]⟩
abbrev S1x1024 : Shape := ⟨2, ![1, 1024]⟩
abbrev S2048x2048 : Shape := ⟨2, ![2048, 2048]⟩
abbrev S2048x5632 : Shape := ⟨2, ![2048, 5632]⟩
abbrev S5632x2048 : Shape := ⟨2, ![5632, 2048]⟩
abbrev S8192x1024 : Shape := ⟨2, ![8192, 1024]⟩
abbrev S4x2048x1024 : Shape := ⟨3, ![4, 2048, 1024]⟩
abbrev S_ : Shape := ⟨0, ![]⟩
abbrev S4x2078x1024 : Shape := ⟨3, ![4, 2078, 1024]⟩

abbrev nBuf : Space → Nat
  | .hbm => 29
  | .vmem => 0
  | .smem => 0
  | _ => 0

abbrev bufTy : (tb : Table) → Fin (tcTables nBuf tb) → BufTy
  | .hbm, ⟨0, _⟩ => ⟨S8192x6144, .f32⟩
  | .hbm, ⟨1, _⟩ => ⟨S4x30x1024, .f32⟩
  | .hbm, ⟨2, _⟩ => ⟨S31x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S2048x2048, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S8192x1024, .f32⟩
  | .hbm, ⟨11, _⟩ => ⟨S4x2048x1024, .f32⟩
  | .hbm, ⟨12, _⟩ => ⟨S8192x1024, .f32⟩
  | .hbm, ⟨13, _⟩ => ⟨S4x2048x1024, .f32⟩
  | .hbm, ⟨14, _⟩ => ⟨S4x2048x1024, .f32⟩
  | .hbm, ⟨15, _⟩ => ⟨S4x2048x1024, .f32⟩
  | .hbm, ⟨16, _⟩ => ⟨S_, .f32⟩
  | .hbm, ⟨17, _⟩ => ⟨S4x2048x1024, .f32⟩
  | .hbm, ⟨18, _⟩ => ⟨S4x2048x1024, .f32⟩
  | .hbm, ⟨19, _⟩ => ⟨S_, .f32⟩
  | .hbm, ⟨20, _⟩ => ⟨S4x2048x1024, .f32⟩
  | .hbm, ⟨21, _⟩ => ⟨S4x2048x1024, .f32⟩
  | .hbm, ⟨22, _⟩ => ⟨S4x2048x1024, .f32⟩
  | .hbm, ⟨23, _⟩ => ⟨S4x2078x1024, .f32⟩
  | .hbm, ⟨24, _⟩ => ⟨S4x30x1024, .f32⟩
  | .hbm, ⟨25, _⟩ => ⟨S2048x2048, .bf16⟩
  | .hbm, ⟨26, _⟩ => ⟨S2048x5632, .bf16⟩
  | .hbm, ⟨27, _⟩ => ⟨S2048x5632, .bf16⟩
  | .hbm, ⟨28, _⟩ => ⟨S5632x2048, .bf16⟩
  | _, _ => ⟨S8192x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Proof.In.lean ====
/- The layer's first projection, `x · w + b`: the prompt's call (24 blocks of 1024 × 2048) and the sample's call (12 column
   blocks, which also writes the weights in bf16). Each block of the result array is that block of `x · w + b`, and the
   blocks fill the array, so the array is the whole product, which is what the reference computes. -/
module

public import proofs.«01_k».proof.Defs
public import proofs.«01_k».proof.Proof.Gen.InProjIdeal.Value
public import proofs.«01_k».proof.Proof.Gen.InProjSIdeal.Value
public import proofs.«01_k».proof.Proof.Gen.InRefIdeal.Read
public import proofs.«01_k».proof.Proof.Gen.InRefSIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

/-! ## The prompt's call -/

namespace Cert.InProjIdeal.Proj

open Cert.InProjIdeal Cert.InProjIdeal.Gen

variable (m : (ℓ : Loc nD τ sig) → Buf (Elt Ideal) ℓ) (ρ : Dev nD → PrngReg)

/-- `x · w + b` as the reference computes it, of any three arrays. -/
abbrev lin (x : FVec Ideal S8192x2048 .f32) (w : FVec Ideal S2048x6144 .bf16) (b : FVec Ideal S1x6144 .f32) :
    FVec Ideal S8192x6144 .f32 := Cert.InRefIdeal.Read.val_main_v3 (F := Ideal) x w b

/-- Where the four windows' blocks lie: rows by the first grid coordinate, columns by the second. -/
theorem idx : ∀ t : Fin cfg0.N, win0_0.index t = ![(grid0.coords t 0).val, 0] ∧ win0_1.index t = ![0, (grid0.coords t 1).val]
    ∧ win0_2.index t = ![0, (grid0.coords t 1).val] ∧ win0_3.index t = ![(grid0.coords t 0).val, (grid0.coords t 1).val] :=
  (by decide +kernel : ∀ t : Fin grid0.N, _)

/-- What a grid point stores at an index of its block is `x · w + b` at the place of the array where that index lies. -/
theorem point (c : Dev nD) (t : Fin cfg0.N) (y) : k0_pay1 (iblk m c 1 t) (iblk m c 0 t) (iblk m c 2 t) y
    = lin (m ((c : Thread nD τ).loc main_arg0)) (m ((c : Thread nD τ).loc main_arg1)) (m ((c : Thread nD τ).loc main_arg2))
        (((cfg0.win 3).blk t).view.emb y) := by
  pointwise [k0_pay1, lin, Cert.InRefIdeal.Read.val_main_v3, Cert.InRefIdeal.Read.val_main_v2, Cert.InRefIdeal.Read.val_main_v1, Cert.InRefIdeal.Read.val_main_v0]
  blk_point [iblk, V, idx t]

/-- The result array is `x · w + b`. -/
theorem final (c : Dev nD) : (dats m 0 c).arrAt 3 cfg0.N
    = lin (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

end Cert.InProjIdeal.Proj

/-! ## The sample's call -/

namespace Cert.InProjSIdeal.Proj

open Cert.InProjSIdeal Cert.InProjSIdeal.Gen

variable (m : (ℓ : Loc nD τ sig) → Buf (Elt Ideal) ℓ) (ρ : Dev nD → PrngReg)

/-- `x · w + b` as the reference computes it, of any three arrays. -/
abbrev lin (x : FVec Ideal S512x2048 .f32) (w : FVec Ideal S2048x6144 .f32) (b : FVec Ideal S1x6144 .f32) :
    FVec Ideal S512x6144 .f32 := Cert.InRefSIdeal.Read.val_main_v2 (F := Ideal) x w b

/-- Where the five windows' blocks lie: columns by the second grid coordinate, all the rows in one block. -/
theorem idx : ∀ t : Fin cfg0.N, win0_0.index t = ![(grid0.coords t 0).val, 0] ∧ win0_1.index t = ![0, (grid0.coords t 1).val]
    ∧ win0_2.index t = ![0, (grid0.coords t 1).val] ∧ win0_3.index t = ![(grid0.coords t 0).val, (grid0.coords t 1).val]
    ∧ win0_4.index t = ![0, (grid0.coords t 1).val] :=
  (by decide +kernel : ∀ t : Fin grid0.N, _)

/-- What a grid point stores at an index of its block is `x · w + b` at the place of the array where that index lies. -/
theorem point (c : Dev nD) (t : Fin cfg0.N) (y) : k0_pay2 (iblk m c 1 t) (iblk m c 0 t) (iblk m c 2 t) y
    = lin (m ((c : Thread nD τ).loc main_arg0)) (m ((c : Thread nD τ).loc main_arg1)) (m ((c : Thread nD τ).loc main_arg2))
        (((cfg0.win 3).blk t).view.emb y) := by
  pointwise [k0_pay2, lin, Cert.InRefSIdeal.Read.val_main_v2, Cert.InRefSIdeal.Read.val_main_v1, Cert.InRefSIdeal.Read.val_main_v0]
  blk_point [iblk, V, idx t]

/-- The first result array is `x · w + b`. -/
theorem final (c : Dev nD) : (dats m 0 c).arrAt 3 cfg0.N
    = lin (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  exact point m c t y

/-- The second result array is the weights. -/
theorem final_w (c : Dev nD) : (dats m 0 c).arrAt 4 cfg0.N
    = Cert.InRefSIdeal.Read.val_main_v3 (F := Ideal) (m ((c : Thread nD τ).loc main_arg1)) := by
  refine (dats m 0 c).arrAt_eq_of_covers 4 _ (by decide +kernel) fun t hf y => ?_
  blk_simp
  rw [after0_4]
  frame_out
  pointwise [k0_pay1, Cert.InRefSIdeal.Read.val_main_v3]
  blk_point [iblk, V, idx t]

end Cert.InProjSIdeal.Proj
-- ==== Proof.Common.lean ====
/- What the layer's calls share: the LayerNorm of one row of 2048 entries over the extended reals. -/
module

public import Idealize.ShloMosaic.Lib.Pipeline.ValueKit

@[expose] public section

set_option maxRecDepth 16384

noncomputable section

open Idealize.ShloMosaic

namespace Cert.Layer

/-- The mean of a row of `n` entries, `N` the word of the divisor. -/
abbrev mean {n : Nat} (N : BitVec 32) (z : Fin n → EReal) : EReal := Ideal.div (∑ k, z k) (Ideal.ofBits .f32 N)

/-- Entry `j` of the LayerNorm of the row `z`, with scale `g` and shift `b` at that entry: `(z j − μ) · rsqrt(σ² + ε) · g + b`,
    `μ` the row's mean and `σ²` the mean of the squared differences from it. -/
def ln {n : Nat} (N : BitVec 32) (z : Fin n → EReal) (g b : EReal) (j : Fin n) : EReal :=
  (z j - mean N z) * Ideal.rsqrt (mean N (fun k => (z k - mean N z) * (z k - mean N z)) + Ideal.ofBits .f32 0x3727C5AC#32) * g + b

/-- Rows equal entry by entry have equal LayerNorms. -/
theorem ln_congr {n : Nat} {N : BitVec 32} {z z' : Fin n → EReal} {g g' b b' : EReal} {j j' : Fin n} (hz : ∀ k, z k = z' k) (hg : g = g')
    (hb : b = b') (hj : j = j') : ln N z g b j = ln N z' g' b' j' := by
  rw [funext hz, hg, hb, hj]

end Cert.Layer

end
-- ==== Proof.Out.lean ====
/- The layer's mixing projection: `LayerNorm(α · x + conv · w₁ + hgrn · w₂)`, on blocks of 512 rows, each done as two halves of
   256 rows. Every stored half block is that part of the reference's result, and the blocks fill the array. The kernel has two
   products of depth 1024, the reference one of depth 2048 over the two branches laid side by side. -/
module

public import proofs.«01_k».proof.Defs
public import proofs.«01_k».proof.Proof.Common
public import proofs.«01_k».proof.Proof.Gen.OutProjIdeal.Value
public import proofs.«01_k».proof.Proof.Gen.OutRefIdeal.Read

@[expose] public section

set_option maxRecDepth 16384

noncomputable section

open Idealize.ShloMosaic Idealize.ShloMosaic.TcCoe Idealize.SL.Sem
open Idealize.ShloMosaic.Pipeline (Dat)

/-! ## The reference, read at an index -/

namespace Cert.OutRefIdeal.Proj

open Cert.OutRefIdeal Cert.OutRefIdeal.Read

/-- The reference's result is the LayerNorm of a row of `val_main_v7`. -/
theorem result (x0 : FVec Ideal S8192x2048 .f32) (x1 x2 : FVec Ideal S8192x1024 .bf16) (x3 : FVec Ideal S2048x2048 .bf16)
    (x4 x5 : FVec Ideal S1x2048 .f32) (i : S8192x2048.Idx) :
    val_main_v29 (F := Ideal) x0 x1 x2 x3 x4 x5 i
      = Layer.ln 0x45000000#32 (fun k : Fin 2048 => val_main_v7 (F := Ideal) x0 x1 x2 x3 (ix2 (i 0) k)) (x4 (ix2 0 (i 1))) (x5 (ix2 0 (i 1))) (i 1) := by
  pointwise [val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_v10, val_main_v9, val_main_v8, val_main_cst_0, val_main_cst_1, val_main_cst_2,
    val_main_cst_3, val_main_cst_4, Layer.ln]

/-- `val_main_v7` is `α · x` plus the two halves of the product. -/
theorem row (x0 : FVec Ideal S8192x2048 .f32) (x1 x2 : FVec Ideal S8192x1024 .bf16) (x3 : FVec Ideal S2048x2048 .bf16)
    (r : Fin 8192) (k : Fin 2048) :
    val_main_v7 (F := Ideal) x0 x1 x2 x3 (ix2 r k)
      = Ideal.ofBits .f32 0x3F9837F0#32 * x0 (ix2 r k)
        + ((∑ q : Fin 1024, x1 (ix2 r q) * x3 (ix2 (⟨q.val, by omega⟩ : Fin 2048) k)) + ∑ q : Fin 1024, x2 (ix2 r q) * x3 (ix2 (⟨1024 + q.val, by omega⟩ : Fin 2048) k)) := by
  pointwise [val_main_v7, val_main_v6, val_main_v5, val_main_v4, val_main_v3, val_main_v2, val_main_v1, val_main_v0, val_main_cst]

end Cert.OutRefIdeal.Proj

/-! ## The kernel -/

namespace Cert.OutProjIdeal.Proj

open Cert.OutProjIdeal Cert.OutProjIdeal.Gen

variable (m : (ℓ : Loc nD τ sig) → Buf (Elt Ideal) ℓ) (ρ : Dev nD → PrngReg)

/-- Where the eight windows' blocks lie: rows by the grid coordinate; the two halves of the weights are blocks 0 and 1. -/
theorem idx : ∀ t : Fin cfg0.N, win0_0.index t = ![(grid0.coords t 0).val, 0] ∧ win0_1.index t = ![(grid0.coords t 0).val, 0]
    ∧ win0_2.index t = ![(grid0.coords t 0).val, 0] ∧ win0_3.index t = ![0, 0] ∧ win0_4.index t = ![1, 0]
    ∧ win0_5.index t = ![0, 0] ∧ win0_6.index t = ![0, 0] ∧ win0_7.index t = ![(grid0.coords t 0).val, 0] :=
  (by decide +kernel : ∀ t : Fin grid0.N, _)

/-- The payload is the one function of the loaded blocks for both halves. -/
theorem pay2_eq : @k0_pay2 Ideal _ = k0_pay1 := rfl

/-- The payload at an index is the LayerNorm of a row. -/
theorem pay (v0 : FVec Ideal S256x1024 .bf16) (v1 : FVec Ideal S1024x2048 .bf16) (v3 : FVec Ideal S256x1024 .bf16)
    (v4 : FVec Ideal S1024x2048 .bf16) (v7 : FVec Ideal S256x2048 .f32) (v11 v12 : FVec Ideal S1x2048 .f32) (x : S256x2048.Idx) :
    k0_pay1 (F := Ideal) v0 v1 v3 v4 v7 v11 v12 x
      = Layer.ln 0x45000000#32 (fun k : Fin 2048 => Ideal.ofBits .f32 0x3F9837F0#32 * v7 (ix2 (x 0) k)
          + ((∑ q : Fin 1024, v0 (ix2 (x 0) q) * v1 (ix2 q k)) + ∑ q : Fin 1024, v3 (ix2 (x 0) q) * v4 (ix2 q k)))
        (v11 (ix2 0 (x 1))) (v12 (ix2 0 (x 1))) (x 1) := by
  pointwise [k0_pay1, Layer.ln]

/-- The result array is the reference's. -/
theorem final (c : Dev nD) : (dats m 0 c).arrAt 7 cfg0.N
    = Cert.OutRefIdeal.Read.val_main_v29 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 7 _ (by decide +kernel) fun t hf y => ?_
  blk_simp
  rw [after0_7]
  frame_out
  rw [pay2_eq]
  canon_tiles x h
  all_goals
    refine (pay _ _ _ _ _ _ _ _).trans (Eq.trans ?_ (Cert.OutRefIdeal.Proj.result _ _ _ _ _ _ _).symm)
    refine Layer.ln_congr (fun k => (?_ : _ = _).trans (Cert.OutRefIdeal.Proj.row _ _ _ _ _ _).symm) ?_ ?_ (Fin.ext ?_)
    · blk_point [iblk, V, idx t]
    · blk_point [iblk, V, idx t]
    · blk_point [iblk, V, idx t]
    · blk_simp [idx t]
      omega

end Cert.OutProjIdeal.Proj
-- ==== Proof.FfnBody.lean ====
/- The run of the feed-forward call. The grid has 8 blocks of 1024 rows and, for each, 11 steps over blocks of 512 hidden columns.
   A block of the result is added up in place over its 11 steps and normalised at the last: this file says what it holds after
   each grid point (`outs`), and derives the run and the frame. -/
module

public import proofs.«01_k».proof.Proof.Gen.FfnIdeal.Frame
public import proofs.«01_k».proof.Proof.Gen.FfnIdeal.Skeleton
public import Idealize.ShloMosaic.Lib.Pipeline.ValueKit
public import Idealize.ShloMosaic.Lib.Claim

@[expose] public section

set_option maxRecDepth 16384

noncomputable section

namespace Cert.FfnIdeal.Body

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of the body -/

/-- The condition of the last step of a row block, -/
abbrev last (i : grid0.Coords) : Prop :=
  (Scalar.cmpi .ne (Scalar.extui (Scalar.cmpi .eq (BitVec.ofNat 32 (i 1).val) 10#32)) 0#32) = 1#1

theorem coords_1 (t : Fin cfg0.N) : (grid0.coords t 1).val = t.val % 11 := by
  have e : (grid0.coords t 1).val = t.val / 1 % 11 := Pipeline.Grid.coords_val t 1 (by decide) rfl
  omega

/-- which holds at the points ≡ 10 (mod 11). -/
theorem last_iff (t : Fin cfg0.N) : last (grid0.coords t) ↔ t.val % 11 = 10 := by
  have h := coords_1 t
  simp only [last, h]
  have : t.val % 11 < 11 := Nat.mod_lt _ (by decide)
  word_cmp

/-- The accumulating store does not depend on what the block held before where the step is the first. -/
theorem pay1_first (i : grid0.Coords) (h : (i 1).val = 0) (x0 : Vec F S1024x2048 .f32) (x1 x2 : Vec F S2048x512 .bf16)
    (x3 : Vec F S512x2048 .bf16) (d d' : Vec F S1024x2048 .f32) : k0_pay1 i x0 x1 x2 d x3 = k0_pay1 i x0 x1 x2 d' x3 := by
  unfold k0_pay1; simp only [h]; rfl

abbrev rS : Rect S1024x2048 := Rect.unit (s := S1024x2048) ![0, 0] S1024x2048.size inb_S1024x2048_S1024x2048_0_0
theorem cover (p0 : Vec F S1024x2048 .f32) (y : S1024x2048.Idx) :
    ∃ pc ∈ ([⟨rS, p0⟩] : List (View.Piece (Elt F) S1024x2048 .f32)), y ∈ pc.1.set :=
  View.cover_of_tiled [⟨rS, p0⟩] S1024x2048.size (by rfl) y

set_option maxHeartbeats 1000000 in
/-- The body at a step that is not the last: the block ends at the accumulating store's value. -/
theorem run_add (c : Dev nD) (E : Set ℕ) (i : grid0.Coords) (arg2 : Memref sig .tc .vmem S1024x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (hc0 : ¬last i)
    (x0 : Vec F S1024x2048 .f32) (x1 : Vec F S2048x512 .bf16) (x2 : Vec F S2048x512 .bf16) (x3 : Vec F S512x2048 .bf16) (x4 : Vec F S1x2048 .f32) (x5 : Vec F S1x2048 .f32) (x6 : Vec F S1024x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay1 i x0 x1 x2 x6 x3)) -∗ K ⟨⟩))
      ⊢ wp frame (wpE (defs₀ (F := F)) Variants.none c none) E (cc0_ffn i arg2 harg2 arg3 harg3 arg4 harg4 arg5 harg5 arg6 harg6 arg7 harg7 arg8 harg8) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover _)).trans ?_
  frame_out

set_option maxHeartbeats 1000000 in
/-- The body at the last step: the block ends normalised. -/
theorem run_last (c : Dev nD) (E : Set ℕ) (i : grid0.Coords) (arg2 : Memref sig .tc .vmem S1024x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S1024x2048 .f32) (harg8 : arg8.IsWhole) (hc0 : last i)
    (x0 : Vec F S1024x2048 .f32) (x1 : Vec F S2048x512 .bf16) (x2 : Vec F S2048x512 .bf16) (x3 : Vec F S512x2048 .bf16) (x4 : Vec F S1x2048 .f32) (x5 : Vec F S1x2048 .f32) (x6 : Vec F S1024x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 x0 (k0_pay1 i x0 x1 x2 x6 x3) x4 x5)) -∗ K ⟨⟩))
      ⊢ wp frame (wpE (defs₀ (F := F)) Variants.none c none) E (cc0_ffn i arg2 harg2 arg3 harg3 arg4 harg4 arg5 harg5 arg6 harg6 arg7 harg7 arg8 harg8) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ ?_).trans ?_
  · intro y
    obtain ⟨pc, hpc, hy⟩ := cover (k0_pay2 (arg2.view.read (Elt F) f0) (arg8.view.read (Elt F) f6) (arg6.view.read (Elt F) f4) (arg7.view.read (Elt F) f5)) y
    cases hpc with
    | head => exact ⟨_, List.mem_cons_self, hy⟩
    | tail _ h => cases h
  frame_out

/-! ## What the block holds, point by point -/

/-- The blocks' sums: what the accumulating store leaves at point `n` when it finds what it left at the point before (at the
    first step of a row block it does not read it, so that the value there, and `d` at point 0, do not matter). -/
def acc (c : Dev nD) (d : Vec F S1024x2048 .f32) : (n : Nat) → n < cfg0.N → Vec F S1024x2048 .f32
  | 0, h => k0_pay1 (grid0.coords ⟨0, h⟩) (iblk m c 0 ⟨0, h⟩) (iblk m c 1 ⟨0, h⟩) (iblk m c 2 ⟨0, h⟩) d (iblk m c 3 ⟨0, h⟩)
  | n + 1, h => k0_pay1 (grid0.coords ⟨n + 1, h⟩) (iblk m c 0 ⟨n + 1, h⟩) (iblk m c 1 ⟨n + 1, h⟩) (iblk m c 2 ⟨n + 1, h⟩)
      (acc c d n (Nat.lt_of_succ_lt h)) (iblk m c 3 ⟨n + 1, h⟩)

/-- Some contents, for point 0. -/
def junk : Vec F S1024x2048 .f32 := constant S1024x2048 .f32 0x00000000#32

/-- The point before `t`. -/
abbrev prev (t : Fin cfg0.N) : Fin cfg0.N := ⟨t.val - 1, Nat.lt_of_le_of_lt (Nat.sub_le _ _) t.isLt⟩

/-- What the block holds after point `t`: the sum so far, normalised at the last step. -/
def outs (c : Dev nD) (t : Fin cfg0.N) : Vec F S1024x2048 .f32 :=
  if t.val % 11 = 10 then k0_pay2 (iblk m c 0 t) (acc m c junk t.val t.isLt) (iblk m c 4 t) (iblk m c 5 t) else acc m c junk t.val t.isLt

/-- At the first step of a row block the sum is the step's own, whatever the block held; -/
theorem acc_first (c : Dev nD) (t : Fin cfg0.N) (h : t.val % 11 = 0) (d : Vec F S1024x2048 .f32) :
    acc m c junk t.val t.isLt = k0_pay1 (grid0.coords t) (iblk m c 0 t) (iblk m c 1 t) (iblk m c 2 t) d (iblk m c 3 t) := by
  have h0 : (grid0.coords t 1).val = 0 := by rw [coords_1, h]
  obtain ⟨n, hn⟩ := t
  cases n with
  | zero => exact pay1_first _ h0 _ _ _ _ _ _
  | succ n => exact pay1_first _ h0 _ _ _ _ _ _

/-- at a later step it is added to the sum of the point before. -/
theorem acc_next (c : Dev nD) (t : Fin cfg0.N) (h : ¬t.val % 11 = 0) :
    acc m c junk t.val t.isLt
      = k0_pay1 (grid0.coords t) (iblk m c 0 t) (iblk m c 1 t) (iblk m c 2 t) (acc m c junk (prev t).val (prev t).isLt) (iblk m c 3 t) := by
  obtain ⟨n, hn⟩ := t
  cases n with
  | zero => exact absurd rfl h
  | succ n => rfl

/-! ## The pipeline's proof data -/

/-- The arrays as launched; after the body at point `t` each input's buffer at its block and the output's at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outs m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outs m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At a later step of a row block the body finds in the block the sum of the point before. -/
theorem before0_6 (c : Dev nD) (t : Fin cfg0.N) (h : ¬t.val % 11 = 0) (d) :
    (dats m 0 c).before 6 t d = acc m c junk (prev t).val (prev t).isLt := by
  have hp : ¬(prev t).val % 11 = 10 := by show ¬(t.val - 1) % 11 = 10; omega
  rw [(dats m 0 c).before_out_kept 6 rfl t (by omega) (Bool.eq_false_iff.mpr fun hf => hp ((flush0_6 _).mp hf)) (fun _ => rfl) (fun _ _ => rfl),
    after0_6]
  unfold outs
  rw [if_neg hp]

/-- The accumulating store's value at point `t`, from what the body finds in the block. -/
theorem acc_before (c : Dev nD) (t : Fin cfg0.N) (d) :
    k0_pay1 (grid0.coords t) (iblk m c 0 t) (iblk m c 1 t) (iblk m c 2 t) ((dats m 0 c).before 6 t d) (iblk m c 3 t)
      = acc m c junk t.val t.isLt := by
  by_cases h : t.val % 11 = 0
  · exact (acc_first m c t h _).symm
  · rw [before0_6 m c t h, acc_next m c t h]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h0 : t.val % 11 = 10
  · iintro ⟨HΦ, Ho, ⟨%d0, H0⟩, ⟨%d1, H1⟩, ⟨%d2, H2⟩, ⟨%d3, H3⟩, ⟨%d4, H4⟩, ⟨%d5, H5⟩, ⟨%d6, H6⟩⟩
    have e : outs m c t = k0_pay2 (iblk m c 0 t) (k0_pay1 (grid0.coords t) (iblk m c 0 t) (iblk m c 1 t) (iblk m c 2 t)
        ((dats m 0 c).before 6 t d6) (iblk m c 3 t)) (iblk m c 4 t) (iblk m c 5 t) := by
      rw [acc_before]; unfold outs; rw [if_pos h0]
    rw [e]
    iapply (run_last c Set.univ (grid0.coords t) _ _ _ _ _ _ _ _ _ _ _ _ _ _ ((last_iff t).mpr h0) (iblk m c 0 t) (iblk m c 1 t) (iblk m c 2 t) (iblk m c 3 t) (iblk m c 4 t) (iblk m c 5 t) ((dats m 0 c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨HΦ, Ho, ⟨%d0, H0⟩, ⟨%d1, H1⟩, ⟨%d2, H2⟩, ⟨%d3, H3⟩, ⟨%d4, H4⟩, ⟨%d5, H5⟩, ⟨%d6, H6⟩⟩
    have e : outs m c t = k0_pay1 (grid0.coords t) (iblk m c 0 t) (iblk m c 1 t) (iblk m c 2 t)
        ((dats m 0 c).before 6 t d6) (iblk m c 3 t) := by
      rw [acc_before]; unfold outs; rw [if_neg h0]
    rw [e]
    iapply (run_add c Set.univ (grid0.coords t) _ _ _ _ _ _ _ _ _ _ _ _ _ _ (fun h => h0 ((last_iff t).mp h)) (iblk m c 0 t) (iblk m c 1 t) (iblk m c 2 t) (iblk m c 3 t) (iblk m c 4 t) (iblk m c 5 t) ((dats m 0 c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the theorem's implicit arguments are found by unifying its conclusion with this one, which takes unfolding definitions in types
set_option backward.isDefEq.respectTransparency.types false in
set_option maxHeartbeats 800000 in
/-- Every run ends with the arrays at what the proof data gives and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the arrays at what the proof data gives. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FfnIdeal.Body

end
-- ==== Proof.Real.lean ====
/- Two facts about the ideal instance's operations at real arguments, and the finiteness of an array read from a predicate. -/
module

public import Idealize.ShloMosaic.Lib.Pipeline.ValueKit
public import Idealize.ShloMosaic.Lib.IdealHost
public import Idealize.ShloMosaic.Lib.Claim

@[expose] public section

noncomputable section

namespace Cert.Layer

open Idealize.ShloMosaic

/-- An extended real that is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

/-- A finite sum of real numbers is a real number. -/
theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- What the comparison `|x| < ∞` of a predicate says. -/
theorem isReal_of_abs_lt (x : Ideal .f32) (h : FloatOps.cmpf .olt (FloatOps.hostAbsf x) (FloatOps.ofBits (F := Ideal) .f32 0x7F800000#32) = 1#1) :
    IsReal x := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  induction x using EReal.rec with
  | bot => simp [Ideal.cmp] at h
  | coe r => exact ⟨r, rfl⟩
  | top => simp [Ideal.cmp] at h

/-- The f32 pattern `0x3F000000` is one half. -/
theorem half : Ideal.ofBits .f32 0x3F000000#32 = ((1 / 2 : ℝ) : EReal) := by
  simp [Ideal.ofBits, Ideal.ieee, -EReal.coe_mul]; norm_num

/-- The logistic function by the hyperbolic tangent, on the reals. -/
theorem real_logistic (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; congr 1; ring
  have p : Real.exp (1 / 2 * r) * Real.exp (-(1 / 2 * r)) = 1 := by rw [← Real.exp_add]; simp
  have h1 := Real.exp_pos (1 / 2 * r)
  have h2 := Real.exp_pos (-(1 / 2 * r))
  rw [Real.tanh_eq_sinh_div_cosh, Real.sinh_eq, Real.cosh_eq, e]
  generalize Real.exp (1 / 2 * r) = a at *
  generalize Real.exp (-(1 / 2 * r)) = b at *
  have : a = 1 / b := by field_simp; linarith
  subst this
  field_simp
  ring

/-- `silu` by the hyperbolic tangent equals `silu` by the logistic function, at a real argument. -/
theorem silu_eq {g : EReal} (hg : IsReal g) :
    Ideal.ofBits .f32 0x3F000000#32 * g * Ideal.tanh (Ideal.ofBits .f32 0x3F000000#32 * g) + Ideal.ofBits .f32 0x3F000000#32 * g = g * Ideal.logistic g := by
  obtain ⟨r, rfl⟩ := hg
  rw [half, ← EReal.coe_mul, Ideal.tanh_coe, Ideal.logistic_coe, ← EReal.coe_mul, ← EReal.coe_add, ← EReal.coe_mul, ← real_logistic]
  congr 1; ring

/-- The logistic function by the hyperbolic tangent, at every argument. -/
theorem logistic_eq (g : EReal) :
    Ideal.ofBits .f32 0x3F000000#32 * Ideal.tanh (Ideal.ofBits .f32 0x3F000000#32 * g) + Ideal.ofBits .f32 0x3F000000#32 = Ideal.logistic g := by
  rw [half]
  induction g using EReal.rec with
  | bot =>
    rw [EReal.coe_mul_bot_of_pos (by norm_num), Ideal.tanh_bot, Ideal.logistic_bot, mul_neg, mul_one, ← EReal.coe_neg, ← EReal.coe_add]
    norm_num
  | coe r => rw [← EReal.coe_mul, Ideal.tanh_coe, Ideal.logistic_coe, ← EReal.coe_mul, ← EReal.coe_add, ← real_logistic]
  | top =>
    rw [EReal.coe_mul_top_of_pos (by norm_num), Ideal.tanh_top, Ideal.logistic_top, mul_one]
    norm_cast; norm_num

end Cert.Layer
-- ==== Proof.Ffn.lean ====
/- The feed-forward call's value: `LayerNorm(α · h + (silu(h · w_gate) * (h · w_up)) · w_down)`. -/
module

public import proofs.«01_k».proof.Defs
public import proofs.«01_k».proof.Proof.Common
public import proofs.«01_k».proof.Proof.Real
public import proofs.«01_k».proof.Proof.FfnBody
public import proofs.«01_k».proof.Proof.Gen.FfnRefIdeal.Read

@[expose] public section

set_option maxRecDepth 16384

noncomputable section

open Idealize.ShloMosaic Idealize.ShloMosaic.TcCoe Idealize.SL.Sem
open Idealize.ShloMosaic.Pipeline (Dat)

/-! ## The reference, read at an index -/

namespace Cert.FfnRefIdeal.Val

open Cert.FfnRefIdeal Cert.FfnRefIdeal.Read

/-- The reference's result is the LayerNorm of a row of `val_main_v10`. -/
theorem result (x0 : FVec Ideal S8192x2048 .f32) (x1 x2 : FVec Ideal S2048x5632 .bf16) (x3 : FVec Ideal S5632x2048 .bf16)
    (x4 x5 : FVec Ideal S1x2048 .f32) (i : S8192x2048.Idx) :
    val_main_v32 (F := Ideal) x0 x1 x2 x3 x4 x5 i
      = Layer.ln 0x45000000#32 (fun k : Fin 2048 => val_main_v10 (F := Ideal) x0 x1 x2 x3 (ix2 (i 0) k)) (x4 (ix2 0 (i 1))) (x5 (ix2 0 (i 1))) (i 1) := by
  pointwise [val_main_v32, val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_cst_0, val_main_cst_1, val_main_cst_2,
    val_main_cst_3, val_main_cst_4, Layer.ln]

/-- The gate before its activation, -/
abbrev gate (x0 : FVec Ideal S8192x2048 .f32) (x1 : FVec Ideal S2048x5632 .bf16) (r : Fin 8192) (k : Fin 5632) : EReal :=
  ∑ q : Fin 2048, x0 (ix2 r q) * x1 (ix2 q k)

/-- `val_main_v10` is `α · h` plus the sum over the hidden columns. -/
theorem row (x0 : FVec Ideal S8192x2048 .f32) (x1 x2 : FVec Ideal S2048x5632 .bf16) (x3 : FVec Ideal S5632x2048 .bf16)
    (r : Fin 8192) (k : Fin 2048) :
    val_main_v10 (F := Ideal) x0 x1 x2 x3 (ix2 r k)
      = Ideal.ofBits .f32 0x3F9837F0#32 * x0 (ix2 r k)
        + ∑ l : Fin 5632, gate x0 x1 r l * Ideal.logistic (gate x0 x1 r l) * gate x0 x2 r l * x3 (ix2 l k) := by
  pointwise [val_main_v10, val_main_v9, val_main_v8, val_main_v7, val_main_v6, val_main_v5, val_main_v4, val_main_v3, val_main_v2, val_main_v1, val_main_v0, val_main_cst,
    val_main_call0_v0, val_main_call0_v1, val_main_call0_v2, val_main_call0_v3, val_main_call0_v4, val_main_call0_v5, val_main_call0_cst, val_main_call0_cst_0, gate, Ideal.logistic]

end Cert.FfnRefIdeal.Val

/-! ## The kernel -/

namespace Cert.FfnIdeal.Val

open Cert.FfnIdeal Cert.FfnIdeal.Gen Cert.FfnIdeal.Body

variable (m : (ℓ : Loc nD τ sig) → Buf (Elt Ideal) ℓ) (ρ : Dev nD → PrngReg)

/-- The normalising payload at an index is the LayerNorm of a row. -/
theorem pay2 (v25 v28 : FVec Ideal S1024x2048 .f32) (v31 v32 : FVec Ideal S1x2048 .f32) (x : S1024x2048.Idx) :
    k0_pay2 (F := Ideal) v25 v28 v31 v32 x
      = Layer.ln 0x45000000#32 (fun k : Fin 2048 => Ideal.ofBits .f32 0x3F9837F0#32 * v25 (ix2 (x 0) k) + v28 (ix2 (x 0) k))
        (v31 (ix2 0 (x 1))) (v32 (ix2 0 (x 1))) (x 1) := by
  pointwise [k0_pay2, Layer.ln]

/-- The kernel's activation, -/
abbrev silu (g : EReal) : EReal :=
  Ideal.ofBits .f32 0x3F000000#32 * g * Ideal.tanh (Ideal.ofBits .f32 0x3F000000#32 * g) + Ideal.ofBits .f32 0x3F000000#32 * g

/-- What a step adds to an entry of its block. -/
def step (v0 : FVec Ideal S1024x2048 .f32) (v2 v4 : FVec Ideal S2048x512 .bf16) (v18 : FVec Ideal S512x2048 .bf16) (x : S1024x2048.Idx) : EReal :=
  ∑ l : Fin 512, silu (∑ q : Fin 2048, v0 (ix2 (x 0) q) * v2 (ix2 q l)) * (∑ q : Fin 2048, v0 (ix2 (x 0) q) * v4 (ix2 q l)) * v18 (ix2 l (x 1))

/-- The accumulating payload at a first step -/
theorem pay1_first (i : grid0.Coords) (h : (i 1).val = 0) (v0 : FVec Ideal S1024x2048 .f32) (v2 v4 : FVec Ideal S2048x512 .bf16) (v14 : FVec Ideal S1024x2048 .f32) (v18 : FVec Ideal S512x2048 .bf16) (x : S1024x2048.Idx) :
    k0_pay1 (F := Ideal) i v0 v2 v4 v14 v18 x = 0 + step v0 v2 v4 v18 x := by
  pointwise [k0_pay1, step, silu, h]

/-- and at a later one. -/
theorem pay1_next (i : grid0.Coords) (h : ¬(i 1).val = 0) (v0 : FVec Ideal S1024x2048 .f32) (v2 v4 : FVec Ideal S2048x512 .bf16) (v14 : FVec Ideal S1024x2048 .f32) (v18 : FVec Ideal S512x2048 .bf16) (x : S1024x2048.Idx) :
    k0_pay1 (F := Ideal) i v0 v2 v4 v14 v18 x = v14 x + step v0 v2 v4 v18 x := by
  have e : Scalar.cmpi .eq (BitVec.ofNat 32 (i 1).val) 0#32 = 0#1 := by
    have h' : (i 1).val < 11 := (i 1).isLt
    show IntOp.cmpi .eq (BitVec.ofNat 32 (i 1).val) 0#32 = 0#1
    word_cmp
  pointwise [k0_pay1, step, silu, e]

/-- What the step at a point adds to an entry of its block. -/
abbrev term (c : Dev nD) (t : Fin cfg0.N) : S1024x2048.Idx → EReal :=
  step (iblk m c 0 t) (iblk m c 1 t) (iblk m c 2 t) (iblk m c 3 t)

/-- At the last step of a row block the accumulator is the sum of its eleven steps. -/
theorem acc_sum (c : Dev nD) (t : Fin cfg0.N) (hr : t.val % 11 = 10) (x : S1024x2048.Idx) :
    acc m c junk t.val t.isLt x
      = ∑ s : Fin 11, term m c ⟨11 * (t.val / 11) + s.val, Pipeline.run_point_lt_of_flush t hr s⟩ x := by
  refine (Pipeline.eq_sum_fin_of_reset_step_apply_of_flush (fun n h => acc m c junk n h) 11 (fun _ => 0) (term m c) ?_ ?_ t hr x).trans (zero_add _)
  · intro n h0 i
    have e : (grid0.coords n 1).val = 0 := (coords_1 n).trans h0
    exact (congrFun (acc_first m c n h0 junk) i).trans (pay1_first _ e _ _ _ _ _ i)
  · intro n h0 i
    have e : ¬(grid0.coords n 1).val = 0 := by rw [coords_1]; exact h0
    exact (congrFun (acc_next m c n h0) i).trans (pay1_next _ e _ _ _ _ _ i)

/-- Each window's block indices, decided over the grid. -/
theorem idx : ∀ t : Fin cfg0.N, win0_0.index t = ![t.val / 11, 0] ∧ win0_1.index t = ![0, t.val % 11] ∧ win0_2.index t = ![0, t.val % 11]
    ∧ win0_3.index t = ![t.val % 11, 0] ∧ win0_4.index t = ![0, 0] ∧ win0_5.index t = ![0, 0] ∧ win0_6.index t = ![t.val / 11, 0] :=
  (by decide +kernel : ∀ t : Fin grid0.N, win0_0.index t = ![t.val / 11, 0] ∧ win0_1.index t = ![0, t.val % 11] ∧ win0_2.index t = ![0, t.val % 11]
    ∧ win0_3.index t = ![t.val % 11, 0] ∧ win0_4.index t = ![0, 0] ∧ win0_5.index t = ![0, 0] ∧ win0_6.index t = ![t.val / 11, 0])

/-- The result array is the reference's, where the gate's two factors are real. -/
theorem final (c : Dev nD) (h0 : ∀ i, Layer.IsReal (m ((c : Thread nD τ).loc main_arg0) i)) (h1 : ∀ i, Layer.IsReal (m ((c : Thread nD τ).loc main_arg1) i)) :
    (dats m 0 c).arrAt 6 cfg0.N
    = Cert.FfnRefIdeal.Read.val_main_v32 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t hf y => ?_
  have hr : t.val % 11 = 10 := (flush0_6 t).mp hf
  blk_simp
  rw [after0_6, outs, if_pos hr]
  refine (pay2 _ _ _ _ _).trans (Eq.trans ?_ (Cert.FfnRefIdeal.Val.result _ _ _ _ _ _ _).symm)
  refine Layer.ln_congr (fun k => (?_ : _ = _).trans (Cert.FfnRefIdeal.Val.row _ _ _ _ _ _).symm) ?_ ?_ (Fin.ext ?_)
  · refine congrArg₂ (· + ·) ?_ ((acc_sum m c t hr _).trans (Fin.sum_mul_add_congr fun s l hl => ?_))
    · blk_point [iblk, V, idx t]
    · generalize hu' : (⟨11 * (t.val / 11) + s.val, Pipeline.run_point_lt_of_flush t hr s⟩ : Fin cfg0.N) = u
      have hd : u.val / 11 = t.val / 11 := by subst hu'; show (11 * (t.val / 11) + s.val) / 11 = _; omega
      have hm : u.val % 11 = s.val := by subst hu'; show (11 * (t.val / 11) + s.val) % 11 = _; omega
      refine congrArg₂ (· * ·) (congrArg₂ (· * ·) ?_ ?_) ?_
      · refine (congrArg silu (?_ : _ = _)).trans (Layer.silu_eq (Layer.IsReal.sum _ fun q => (h0 _).mul (h1 _)))
        refine Finset.sum_congr rfl fun q _ => ?_
        blk_point [iblk, V, idx t, idx u, hd, hm]
      · refine Finset.sum_congr rfl fun q _ => ?_
        blk_point [iblk, V, idx t, idx u, hd, hm]
      · blk_point [iblk, V, idx t, idx u, hd, hm]
  · blk_point [iblk, V, idx t]
  · blk_point [iblk, V, idx t]
  · blk_simp [idx t]

end Cert.FfnIdeal.Val
-- ==== Proof.FfnBits.lean ====
/- The frame of the feed-forward call at the bit patterns. Its text is its idealization's, whose frame holds at any floats. -/
module

public import proofs.«01_k».proof.Defs
public import proofs.«01_k».proof.Proof.FfnBody
public import proofs.«01_k».proof.Proof.Gen.Ffn

@[expose] public section

noncomputable section

open Idealize.ShloMosaic Idealize.ShloMosaic.TcCoe Idealize.SL.Sem

namespace Cert.Ffn.Same

variable {F : FTy → Type} [FloatOps F]

/-- The two programs' kernel bodies are one, -/
theorem bodies [Cert.Ffn.Facts] : @Cert.Ffn.defs₀ F _ _ = @Cert.FfnIdeal.defs₀ F _ _ := by
  unfold Cert.Ffn.defs₀ Cert.FfnIdeal.defs₀
  refine congrArg (Defs.onTc) ?_
  funext l x
  match l, x with
  | 0, (t, s) => rfl
  | ⟨_ + 1, h⟩, _ => exact absurd h (Nat.not_lt.2 (Nat.le_add_left _ _))

/-- so are their body tables, -/
theorem tables [Cert.Ffn.Facts] : @Cert.Ffn.defs F _ _ = @Cert.FfnIdeal.defs F _ _ := by
  unfold Cert.Ffn.defs Cert.FfnIdeal.defs
  rw [bodies]
  with_unfolding_all rfl

/-- and their @main. -/
theorem mains [Cert.Ffn.Facts] : @Cert.Ffn.main F _ = @Cert.FfnIdeal.main F _ := by with_unfolding_all rfl

/-- The frame of the feed-forward call. -/
theorem quiescent [Cert.Ffn.Facts] : Cert.quiescent_Ffn := by
  intro m ρ _
  rw [tables, mains]
  exact Cert.FfnIdeal.Body.frame (F := Bits) m ρ

end Cert.Ffn.Same

end
-- ==== Proof.FfnSBody.lean ====
/- The run of the feed-forward call of the sample. One block of 512 rows and 11 steps over blocks of 512 hidden columns.
   A block of the result is added up in place over its 11 steps and normalised at the last: this file says what it holds after
   each grid point (`outs`), and derives the run and the frame. -/
module

public import proofs.«01_k».proof.Proof.Gen.FfnSIdeal.Frame
public import proofs.«01_k».proof.Proof.Gen.FfnSIdeal.Skeleton
public import Idealize.ShloMosaic.Lib.Pipeline.ValueKit
public import Idealize.ShloMosaic.Lib.Claim

@[expose] public section

set_option maxRecDepth 16384

noncomputable section

namespace Cert.FfnSIdeal.Body

open Cert.FfnSIdeal Cert.FfnSIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two cases of the body -/

/-- The condition of the last step of a row block, -/
abbrev last (i : grid0.Coords) : Prop :=
  (Scalar.cmpi .ne (Scalar.extui (Scalar.cmpi .eq (BitVec.ofNat 32 (i 1).val) 10#32)) 0#32) = 1#1

theorem coords_1 (t : Fin cfg0.N) : (grid0.coords t 1).val = t.val % 11 := by
  have e : (grid0.coords t 1).val = t.val / 1 % 11 := Pipeline.Grid.coords_val t 1 (by decide) rfl
  omega

/-- which holds at the points ≡ 10 (mod 11). -/
theorem last_iff (t : Fin cfg0.N) : last (grid0.coords t) ↔ t.val % 11 = 10 := by
  have h := coords_1 t
  simp only [last, h]
  have : t.val % 11 < 11 := Nat.mod_lt _ (by decide)
  word_cmp

/-- The accumulating store does not depend on what the block held before where the step is the first. -/
theorem pay1_first (i : grid0.Coords) (h : (i 1).val = 0) (x0 : Vec F S512x2048 .f32) (x1 x2 : Vec F S2048x512 .bf16)
    (x3 : Vec F S512x2048 .bf16) (d d' : Vec F S512x2048 .f32) : k0_pay1 i x0 x1 x2 d x3 = k0_pay1 i x0 x1 x2 d' x3 := by
  unfold k0_pay1; simp only [h]; rfl

abbrev rS : Rect S512x2048 := Rect.unit (s := S512x2048) ![0, 0] S512x2048.size inb_S512x2048_S512x2048_0_0
theorem cover (p0 : Vec F S512x2048 .f32) (y : S512x2048.Idx) :
    ∃ pc ∈ ([⟨rS, p0⟩] : List (View.Piece (Elt F) S512x2048 .f32)), y ∈ pc.1.set :=
  View.cover_of_tiled [⟨rS, p0⟩] S512x2048.size (by rfl) y

set_option maxHeartbeats 1000000 in
/-- The body at a step that is not the last: the block ends at the accumulating store's value. -/
theorem run_add (c : Dev nD) (E : Set ℕ) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (hc0 : ¬last i)
    (x0 : Vec F S512x2048 .f32) (x1 : Vec F S2048x512 .bf16) (x2 : Vec F S2048x512 .bf16) (x3 : Vec F S512x2048 .bf16) (x4 : Vec F S1x2048 .f32) (x5 : Vec F S1x2048 .f32) (x6 : Vec F S512x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay1 i x0 x1 x2 x6 x3)) -∗ K ⟨⟩))
      ⊢ wp frame (wpE (defs₀ (F := F)) Variants.none c none) E (cc0_ffn i arg2 harg2 arg3 harg3 arg4 harg4 arg5 harg5 arg6 harg6 arg7 harg7 arg8 harg8) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover _)).trans ?_
  frame_out

set_option maxHeartbeats 1000000 in
/-- The body at the last step: the block ends normalised. -/
theorem run_last (c : Dev nD) (E : Set ℕ) (i : grid0.Coords) (arg2 : Memref sig .tc .vmem S512x2048 .f32) (harg2 : arg2.IsWhole) (arg3 : Memref sig .tc .vmem S2048x512 .bf16) (harg3 : arg3.IsWhole) (arg4 : Memref sig .tc .vmem S2048x512 .bf16) (harg4 : arg4.IsWhole) (arg5 : Memref sig .tc .vmem S512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S512x2048 .f32) (harg8 : arg8.IsWhole) (hc0 : last i)
    (x0 : Vec F S512x2048 .f32) (x1 : Vec F S2048x512 .bf16) (x2 : Vec F S2048x512 .bf16) (x3 : Vec F S512x2048 .bf16) (x4 : Vec F S1x2048 .f32) (x5 : Vec F S1x2048 .f32) (x6 : Vec F S512x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k0_pay2 x0 (k0_pay1 i x0 x1 x2 x6 x3) x4 x5)) -∗ K ⟨⟩))
      ⊢ wp frame (wpE (defs₀ (F := F)) Variants.none c none) E (cc0_ffn i arg2 harg2 arg3 harg3 arg4 harg4 arg5 harg5 arg6 harg6 arg7 harg7 arg8 harg8) K := by
  simp only [cc0_ffn_eq_skeleton]; unfold cc0_ffn_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  subst hf0 hf1 hf2 hf3 hf4 hf5 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ ?_).trans ?_
  · intro y
    obtain ⟨pc, hpc, hy⟩ := cover (k0_pay2 (arg2.view.read (Elt F) f0) (arg8.view.read (Elt F) f6) (arg6.view.read (Elt F) f4) (arg7.view.read (Elt F) f5)) y
    cases hpc with
    | head => exact ⟨_, List.mem_cons_self, hy⟩
    | tail _ h => cases h
  frame_out

/-! ## What the block holds, point by point -/

/-- The blocks' sums: what the accumulating store leaves at point `n` when it finds what it left at the point before (at the
    first step of a row block it does not read it, so that the value there, and `d` at point 0, do not matter). -/
def acc (c : Dev nD) (d : Vec F S512x2048 .f32) : (n : Nat) → n < cfg0.N → Vec F S512x2048 .f32
  | 0, h => k0_pay1 (grid0.coords ⟨0, h⟩) (iblk m c 0 ⟨0, h⟩) (iblk m c 1 ⟨0, h⟩) (iblk m c 2 ⟨0, h⟩) d (iblk m c 3 ⟨0, h⟩)
  | n + 1, h => k0_pay1 (grid0.coords ⟨n + 1, h⟩) (iblk m c 0 ⟨n + 1, h⟩) (iblk m c 1 ⟨n + 1, h⟩) (iblk m c 2 ⟨n + 1, h⟩)
      (acc c d n (Nat.lt_of_succ_lt h)) (iblk m c 3 ⟨n + 1, h⟩)

/-- Some contents, for point 0. -/
def junk : Vec F S512x2048 .f32 := constant S512x2048 .f32 0x00000000#32

/-- The point before `t`. -/
abbrev prev (t : Fin cfg0.N) : Fin cfg0.N := ⟨t.val - 1, Nat.lt_of_le_of_lt (Nat.sub_le _ _) t.isLt⟩

/-- What the block holds after point `t`: the sum so far, normalised at the last step. -/
def outs (c : Dev nD) (t : Fin cfg0.N) : Vec F S512x2048 .f32 :=
  if t.val % 11 = 10 then k0_pay2 (iblk m c 0 t) (acc m c junk t.val t.isLt) (iblk m c 4 t) (iblk m c 5 t) else acc m c junk t.val t.isLt

/-- At the first step of a row block the sum is the step's own, whatever the block held; -/
theorem acc_first (c : Dev nD) (t : Fin cfg0.N) (h : t.val % 11 = 0) (d : Vec F S512x2048 .f32) :
    acc m c junk t.val t.isLt = k0_pay1 (grid0.coords t) (iblk m c 0 t) (iblk m c 1 t) (iblk m c 2 t) d (iblk m c 3 t) := by
  have h0 : (grid0.coords t 1).val = 0 := by rw [coords_1, h]
  obtain ⟨n, hn⟩ := t
  cases n with
  | zero => exact pay1_first _ h0 _ _ _ _ _ _
  | succ n => exact pay1_first _ h0 _ _ _ _ _ _

/-- at a later step it is added to the sum of the point before. -/
theorem acc_next (c : Dev nD) (t : Fin cfg0.N) (h : ¬t.val % 11 = 0) :
    acc m c junk t.val t.isLt
      = k0_pay1 (grid0.coords t) (iblk m c 0 t) (iblk m c 1 t) (iblk m c 2 t) (acc m c junk (prev t).val (prev t).isLt) (iblk m c 3 t) := by
  obtain ⟨n, hn⟩ := t
  cases n with
  | zero => exact absurd rfl h
  | succ n => rfl

/-! ## The pipeline's proof data -/

/-- The arrays as launched; after the body at point `t` each input's buffer at its block and the output's at `outs`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outs m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outs m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- At a later step of a row block the body finds in the block the sum of the point before. -/
theorem before0_6 (c : Dev nD) (t : Fin cfg0.N) (h : ¬t.val % 11 = 0) (d) :
    (dats m 0 c).before 6 t d = acc m c junk (prev t).val (prev t).isLt := by
  have hp : ¬(prev t).val % 11 = 10 := by show ¬(t.val - 1) % 11 = 10; omega
  rw [(dats m 0 c).before_out_kept 6 rfl t (by omega) (Bool.eq_false_iff.mpr fun hf => hp ((flush0_6 _).mp hf)) (fun _ => rfl) (fun _ _ => rfl),
    after0_6]
  unfold outs
  rw [if_neg hp]

/-- The accumulating store's value at point `t`, from what the body finds in the block. -/
theorem acc_before (c : Dev nD) (t : Fin cfg0.N) (d) :
    k0_pay1 (grid0.coords t) (iblk m c 0 t) (iblk m c 1 t) (iblk m c 2 t) ((dats m 0 c).before 6 t d) (iblk m c 3 t)
      = acc m c junk t.val t.isLt := by
  by_cases h : t.val % 11 = 0
  · exact (acc_first m c t h _).symm
  · rw [before0_6 m c t h, acc_next m c t h]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

set_option maxHeartbeats 800000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h0 : t.val % 11 = 10
  · iintro ⟨HΦ, Ho, ⟨%d0, H0⟩, ⟨%d1, H1⟩, ⟨%d2, H2⟩, ⟨%d3, H3⟩, ⟨%d4, H4⟩, ⟨%d5, H5⟩, ⟨%d6, H6⟩⟩
    have e : outs m c t = k0_pay2 (iblk m c 0 t) (k0_pay1 (grid0.coords t) (iblk m c 0 t) (iblk m c 1 t) (iblk m c 2 t)
        ((dats m 0 c).before 6 t d6) (iblk m c 3 t)) (iblk m c 4 t) (iblk m c 5 t) := by
      rw [acc_before]; unfold outs; rw [if_pos h0]
    rw [e]
    iapply (run_last c Set.univ (grid0.coords t) _ _ _ _ _ _ _ _ _ _ _ _ _ _ ((last_iff t).mpr h0) (iblk m c 0 t) (iblk m c 1 t) (iblk m c 2 t) (iblk m c 3 t) (iblk m c 4 t) (iblk m c 5 t) ((dats m 0 c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨HΦ, Ho, ⟨%d0, H0⟩, ⟨%d1, H1⟩, ⟨%d2, H2⟩, ⟨%d3, H3⟩, ⟨%d4, H4⟩, ⟨%d5, H5⟩, ⟨%d6, H6⟩⟩
    have e : outs m c t = k0_pay1 (grid0.coords t) (iblk m c 0 t) (iblk m c 1 t) (iblk m c 2 t)
        ((dats m 0 c).before 6 t d6) (iblk m c 3 t) := by
      rw [acc_before]; unfold outs; rw [if_neg h0]
    rw [e]
    iapply (run_add c Set.univ (grid0.coords t) _ _ _ _ _ _ _ _ _ _ _ _ _ _ (fun h => h0 ((last_iff t).mp h)) (iblk m c 0 t) (iblk m c 1 t) (iblk m c 2 t) (iblk m c 3 t) (iblk m c 4 t) (iblk m c 5 t) ((dats m 0 c).before 6 t d6) _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- the theorem's implicit arguments are found by unifying its conclusion with this one, which takes unfolding definitions in types
set_option backward.isDefEq.respectTransparency.types false in
set_option maxHeartbeats 800000 in
/-- Every run ends with the arrays at what the proof data gives and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with the arrays at what the proof data gives. -/
theorem run_main : θ_run defs (onTc (τ := τ) (main (F := F))) (s₀ m ρ) (Pipeline.FramePost cfgs (dats m) 0 (V m)) :=
  (θ_run defs _ _).mono (fun _ h => h.1) (run_main_quiescent m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FfnSIdeal.Body

end
-- ==== Proof.FfnS.lean ====
/- The sample's feed-forward call's value: `LayerNorm(α · h + (silu(h · w_gate) * (h · w_up)) · w_down)`. -/
module

public import proofs.«01_k».proof.Defs
public import proofs.«01_k».proof.Proof.Common
public import proofs.«01_k».proof.Proof.Real
public import proofs.«01_k».proof.Proof.FfnSBody
public import proofs.«01_k».proof.Proof.Gen.FfnRefSIdeal.Read

@[expose] public section

set_option maxRecDepth 16384

noncomputable section

open Idealize.ShloMosaic Idealize.ShloMosaic.TcCoe Idealize.SL.Sem
open Idealize.ShloMosaic.Pipeline (Dat)

/-! ## The reference, read at an index -/

namespace Cert.FfnRefSIdeal.Val

open Cert.FfnRefSIdeal Cert.FfnRefSIdeal.Read

/-- The reference's result is the LayerNorm of a row of `val_main_v10`. -/
theorem result (x0 : FVec Ideal S512x2048 .f32) (x1 x2 : FVec Ideal S2048x5632 .bf16) (x3 : FVec Ideal S5632x2048 .bf16)
    (x4 x5 : FVec Ideal S1x2048 .f32) (i : S512x2048.Idx) :
    val_main_v32 (F := Ideal) x0 x1 x2 x3 x4 x5 i
      = Layer.ln 0x45000000#32 (fun k : Fin 2048 => val_main_v10 (F := Ideal) x0 x1 x2 x3 (ix2 (i 0) k)) (x4 (ix2 0 (i 1))) (x5 (ix2 0 (i 1))) (i 1) := by
  pointwise [val_main_v32, val_main_v31, val_main_v30, val_main_v29, val_main_v28, val_main_v27, val_main_v26, val_main_v25, val_main_v24, val_main_v23, val_main_v22,
    val_main_v21, val_main_v20, val_main_v19, val_main_v18, val_main_v17, val_main_v16, val_main_v15, val_main_v14, val_main_v13,
    val_main_v12, val_main_v11, val_main_cst_0, val_main_cst_1, val_main_cst_2,
    val_main_cst_3, val_main_cst_4, Layer.ln]

/-- The gate before its activation, -/
abbrev gate (x0 : FVec Ideal S512x2048 .f32) (x1 : FVec Ideal S2048x5632 .bf16) (r : Fin 512) (k : Fin 5632) : EReal :=
  ∑ q : Fin 2048, x0 (ix2 r q) * x1 (ix2 q k)

/-- `val_main_v10` is `α · h` plus the sum over the hidden columns. -/
theorem row (x0 : FVec Ideal S512x2048 .f32) (x1 x2 : FVec Ideal S2048x5632 .bf16) (x3 : FVec Ideal S5632x2048 .bf16)
    (r : Fin 512) (k : Fin 2048) :
    val_main_v10 (F := Ideal) x0 x1 x2 x3 (ix2 r k)
      = Ideal.ofBits .f32 0x3F9837F0#32 * x0 (ix2 r k)
        + ∑ l : Fin 5632, gate x0 x1 r l * Ideal.logistic (gate x0 x1 r l) * gate x0 x2 r l * x3 (ix2 l k) := by
  pointwise [val_main_v10, val_main_v9, val_main_v8, val_main_v7, val_main_v6, val_main_v5, val_main_v4, val_main_v3, val_main_v2, val_main_v1, val_main_v0, val_main_cst,
    val_main_call0_v0, val_main_call0_v1, val_main_call0_v2, val_main_call0_v3, val_main_call0_v4, val_main_call0_v5, val_main_call0_cst, val_main_call0_cst_0, gate, Ideal.logistic]

end Cert.FfnRefSIdeal.Val

/-! ## The kernel -/

namespace Cert.FfnSIdeal.Val

open Cert.FfnSIdeal Cert.FfnSIdeal.Gen Cert.FfnSIdeal.Body

variable (m : (ℓ : Loc nD τ sig) → Buf (Elt Ideal) ℓ) (ρ : Dev nD → PrngReg)

/-- The normalising payload at an index is the LayerNorm of a row. -/
theorem pay2 (v25 v28 : FVec Ideal S512x2048 .f32) (v31 v32 : FVec Ideal S1x2048 .f32) (x : S512x2048.Idx) :
    k0_pay2 (F := Ideal) v25 v28 v31 v32 x
      = Layer.ln 0x45000000#32 (fun k : Fin 2048 => Ideal.ofBits .f32 0x3F9837F0#32 * v25 (ix2 (x 0) k) + v28 (ix2 (x 0) k))
        (v31 (ix2 0 (x 1))) (v32 (ix2 0 (x 1))) (x 1) := by
  pointwise [k0_pay2, Layer.ln]

/-- The kernel's activation, -/
abbrev silu (g : EReal) : EReal :=
  Ideal.ofBits .f32 0x3F000000#32 * g * Ideal.tanh (Ideal.ofBits .f32 0x3F000000#32 * g) + Ideal.ofBits .f32 0x3F000000#32 * g

/-- What a step adds to an entry of its block. -/
def step (v0 : FVec Ideal S512x2048 .f32) (v2 v4 : FVec Ideal S2048x512 .bf16) (v18 : FVec Ideal S512x2048 .bf16) (x : S512x2048.Idx) : EReal :=
  ∑ l : Fin 512, silu (∑ q : Fin 2048, v0 (ix2 (x 0) q) * v2 (ix2 q l)) * (∑ q : Fin 2048, v0 (ix2 (x 0) q) * v4 (ix2 q l)) * v18 (ix2 l (x 1))

/-- The accumulating payload at a first step -/
theorem pay1_first (i : grid0.Coords) (h : (i 1).val = 0) (v0 : FVec Ideal S512x2048 .f32) (v2 v4 : FVec Ideal S2048x512 .bf16) (v14 : FVec Ideal S512x2048 .f32) (v18 : FVec Ideal S512x2048 .bf16) (x : S512x2048.Idx) :
    k0_pay1 (F := Ideal) i v0 v2 v4 v14 v18 x = 0 + step v0 v2 v4 v18 x := by
  pointwise [k0_pay1, step, silu, h]

/-- and at a later one. -/
theorem pay1_next (i : grid0.Coords) (h : ¬(i 1).val = 0) (v0 : FVec Ideal S512x2048 .f32) (v2 v4 : FVec Ideal S2048x512 .bf16) (v14 : FVec Ideal S512x2048 .f32) (v18 : FVec Ideal S512x2048 .bf16) (x : S512x2048.Idx) :
    k0_pay1 (F := Ideal) i v0 v2 v4 v14 v18 x = v14 x + step v0 v2 v4 v18 x := by
  have e : Scalar.cmpi .eq (BitVec.ofNat 32 (i 1).val) 0#32 = 0#1 := by
    have h' : (i 1).val < 11 := (i 1).isLt
    show IntOp.cmpi .eq (BitVec.ofNat 32 (i 1).val) 0#32 = 0#1
    word_cmp
  pointwise [k0_pay1, step, silu, e]

/-- What the step at a point adds to an entry of its block. -/
abbrev term (c : Dev nD) (t : Fin cfg0.N) : S512x2048.Idx → EReal :=
  step (iblk m c 0 t) (iblk m c 1 t) (iblk m c 2 t) (iblk m c 3 t)

/-- At the last step of a row block the accumulator is the sum of its eleven steps. -/
theorem acc_sum (c : Dev nD) (t : Fin cfg0.N) (hr : t.val % 11 = 10) (x : S512x2048.Idx) :
    acc m c junk t.val t.isLt x
      = ∑ s : Fin 11, term m c ⟨11 * (t.val / 11) + s.val, Pipeline.run_point_lt_of_flush t hr s⟩ x := by
  refine (Pipeline.eq_sum_fin_of_reset_step_apply_of_flush (fun n h => acc m c junk n h) 11 (fun _ => 0) (term m c) ?_ ?_ t hr x).trans (zero_add _)
  · intro n h0 i
    have e : (grid0.coords n 1).val = 0 := (coords_1 n).trans h0
    exact (congrFun (acc_first m c n h0 junk) i).trans (pay1_first _ e _ _ _ _ _ i)
  · intro n h0 i
    have e : ¬(grid0.coords n 1).val = 0 := by rw [coords_1]; exact h0
    exact (congrFun (acc_next m c n h0) i).trans (pay1_next _ e _ _ _ _ _ i)

/-- Each window's block indices, decided over the grid. -/
theorem idx : ∀ t : Fin cfg0.N, win0_0.index t = ![t.val / 11, 0] ∧ win0_1.index t = ![0, t.val % 11] ∧ win0_2.index t = ![0, t.val % 11]
    ∧ win0_3.index t = ![t.val % 11, 0] ∧ win0_4.index t = ![0, 0] ∧ win0_5.index t = ![0, 0] ∧ win0_6.index t = ![t.val / 11, 0] :=
  (by decide +kernel : ∀ t : Fin grid0.N, win0_0.index t = ![t.val / 11, 0] ∧ win0_1.index t = ![0, t.val % 11] ∧ win0_2.index t = ![0, t.val % 11]
    ∧ win0_3.index t = ![t.val % 11, 0] ∧ win0_4.index t = ![0, 0] ∧ win0_5.index t = ![0, 0] ∧ win0_6.index t = ![t.val / 11, 0])

/-- The result array is the reference's, where the gate's two factors are real. -/
theorem final (c : Dev nD) (h0 : ∀ i, Layer.IsReal (m ((c : Thread nD τ).loc main_arg0) i)) (h1 : ∀ i, Layer.IsReal (m ((c : Thread nD τ).loc main_arg1) i)) :
    (dats m 0 c).arrAt 6 cfg0.N
    = Cert.FfnRefSIdeal.Read.val_main_v32 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (dats m 0 c).arrAt_eq_of_covers 6 _ (by decide +kernel) fun t hf y => ?_
  have hr : t.val % 11 = 10 := (flush0_6 t).mp hf
  blk_simp
  rw [after0_6, outs, if_pos hr]
  refine (pay2 _ _ _ _ _).trans (Eq.trans ?_ (Cert.FfnRefSIdeal.Val.result _ _ _ _ _ _ _).symm)
  refine Layer.ln_congr (fun k => (?_ : _ = _).trans (Cert.FfnRefSIdeal.Val.row _ _ _ _ _ _).symm) ?_ ?_ (Fin.ext ?_)
  · refine congrArg₂ (· + ·) ?_ ((acc_sum m c t hr _).trans (Fin.sum_mul_add_congr fun s l hl => ?_))
    · blk_point [iblk, V, idx t]
    · generalize hu' : (⟨11 * (t.val / 11) + s.val, Pipeline.run_point_lt_of_flush t hr s⟩ : Fin cfg0.N) = u
      have hd : u.val / 11 = t.val / 11 := by subst hu'; show (11 * (t.val / 11) + s.val) / 11 = _; omega
      have hm : u.val % 11 = s.val := by subst hu'; show (11 * (t.val / 11) + s.val) % 11 = _; omega
      refine congrArg₂ (· * ·) (congrArg₂ (· * ·) ?_ ?_) ?_
      · refine (congrArg silu (?_ : _ = _)).trans (Layer.silu_eq (Layer.IsReal.sum _ fun q => (h0 _).mul (h1 _)))
        refine Finset.sum_congr rfl fun q _ => ?_
        blk_point [iblk, V, idx t, idx u, hd, hm]
      · refine Finset.sum_congr rfl fun q _ => ?_
        blk_point [iblk, V, idx t, idx u, hd, hm]
      · blk_point [iblk, V, idx t, idx u, hd, hm]
  · blk_point [iblk, V, idx t]
  · blk_point [iblk, V, idx t]
  · blk_simp [idx t]

end Cert.FfnSIdeal.Val
-- ==== Proof.FfnSBits.lean ====
/- The frame of the sample's feed-forward call at the bit patterns. Its text is its idealization's, whose frame holds at any floats. -/
module

public import proofs.«01_k».proof.Defs
public import proofs.«01_k».proof.Proof.FfnSBody
public import proofs.«01_k».proof.Proof.Gen.FfnS

@[expose] public section

noncomputable section

open Idealize.ShloMosaic Idealize.ShloMosaic.TcCoe Idealize.SL.Sem

namespace Cert.FfnS.Same

variable {F : FTy → Type} [FloatOps F]

/-- The two programs' kernel bodies are one, -/
theorem bodies [Cert.FfnS.Facts] : @Cert.FfnS.defs₀ F _ _ = @Cert.FfnSIdeal.defs₀ F _ _ := by
  unfold Cert.FfnS.defs₀ Cert.FfnSIdeal.defs₀
  refine congrArg (Defs.onTc) ?_
  funext l x
  match l, x with
  | 0, (t, s) => rfl
  | ⟨_ + 1, h⟩, _ => exact absurd h (Nat.not_lt.2 (Nat.le_add_left _ _))

/-- so are their body tables, -/
theorem tables [Cert.FfnS.Facts] : @Cert.FfnS.defs F _ _ = @Cert.FfnSIdeal.defs F _ _ := by
  unfold Cert.FfnS.defs Cert.FfnSIdeal.defs
  rw [bodies]
  with_unfolding_all rfl

/-- and their @main. -/
theorem mains [Cert.FfnS.Facts] : @Cert.FfnS.main F _ = @Cert.FfnSIdeal.main F _ := by with_unfolding_all rfl

/-- The frame of the feed-forward call. -/
theorem quiescent [Cert.FfnS.Facts] : Cert.quiescent_FfnS := by
  intro m ρ _
  rw [tables, mains]
  exact Cert.FfnSIdeal.Body.frame (F := Bits) m ρ

end Cert.FfnS.Same

end
-- ==== Proof.Scratch.lean ====
/- The convolution's scratch: one padded window per stream, and seven copies of it, the `p`-th shifted up by `p` rows. -/
module

public import proofs.«01_k».proof.Proof.Gen.ConvIdeal
public import Idealize.ShloMosaic.Lib.Pipeline.ValueKit
public import Idealize.ShloMosaic.Lib.Pipeline.ReadBack

@[expose] public section

noncomputable section

open Idealize.ShloMosaic

namespace Cert.ConvIdeal.Scratch

open Cert.ConvIdeal

variable {Val : EltTy → Type} [∀ e, Nonempty (Val e)]

/-- The rows of copy `p` of stream `n` from row `r`, as a store writes them. -/
abbrev rows {n p r h : ℕ} (i₁ : ∀ a, ![n, 0, 0, 0] a + S1x8x48x1024.size a ≤ S4x8x48x1024.size a) (i₂ : ∀ a, ![p, r, 0] a + ![1, h, 1024] a ≤ S8x48x1024.size a)
    (h₀ : ![1, 8, 48, 1024] (0 : Fin 4) = 1) (hs : ∀ i : Fin 3, ![1, 8, 48, 1024] i.succ = ![8, 48, 1024] i)
    (h₁ : ∀ a, (Rect.unit (s := S4x8x48x1024) ![n, 0, 0, 0] S1x8x48x1024.size i₁).stride a = 1) : Rect S4x8x48x1024 :=
  (Rect.unit (s := S4x8x48x1024) ![n, 0, 0, 0] S1x8x48x1024.size i₁).within
    ((Rect.unit (s := S8x48x1024) ![p, r, 0] ![1, h, 1024] i₂).consLift ![1, 8, 48, 1024] h₀ hs) h₁

section
variable {n p r h : ℕ} (i₁ : ∀ a, ![n, 0, 0, 0] a + S1x8x48x1024.size a ≤ S4x8x48x1024.size a) (i₂ : ∀ a, ![p, r, 0] a + ![1, h, 1024] a ≤ S8x48x1024.size a)
  (h₀ : ![1, 8, 48, 1024] (0 : Fin 4) = 1) (hs : ∀ i : Fin 3, ![1, 8, 48, 1024] i.succ = ![8, 48, 1024] i)
  (h₁ : ∀ a, (Rect.unit (s := S4x8x48x1024) ![n, 0, 0, 0] S1x8x48x1024.size i₁).stride a = 1)

/-- Where such a rectangle puts an index. -/
theorem rows_emb (z : (rows i₁ i₂ h₀ hs h₁).shape.Idx) :
    ((rows i₁ i₂ h₀ hs h₁).emb z 0).val = n ∧ ((rows i₁ i₂ h₀ hs h₁).emb z 1).val = p
      ∧ ((rows i₁ i₂ h₀ hs h₁).emb z 2).val = r + (z 2).val ∧ ((rows i₁ i₂ h₀ hs h₁).emb z 3).val = (z 3).val := by
  have z0 : (z 0).val < 1 := (z 0).isLt
  have z1 : (z 1).val < 1 := (z 1).isLt
  refine ⟨?_, ?_, ?_, ?_⟩
  · show n + 0 + 1 * (z 0).val = n; omega
  · show 0 + p + 1 * (z 1).val = p; omega
  · show 0 + r + 1 * (z 2).val = r + (z 2).val; omega
  · show 0 + 0 + 1 * (z 3).val = (z 3).val; omega

/-- A store of such rows, read back inside them, -/
theorem canon_hit (w : (⟨3, ![1, h, 1024]⟩ : Shape).Idx → Val .f32) (L : List (View.Piece Val S4x8x48x1024 .f32))
    (hR : (rows i₁ i₂ h₀ hs h₁).shape.numel = (Rect.unit (s := S8x48x1024) ![p, r, 0] ![1, h, 1024] i₂).shape.numel)
    (y : S4x8x48x1024.Idx) (e0 : (y 0).val = n) (e1 : (y 1).val = p) (k : Fin h) (e2 : (y 2).val = r + k.val) :
    View.canon (⟨rows i₁ i₂ h₀ hs h₁, Rect.payAlong (r := Rect.unit (s := S8x48x1024) ![p, r, 0] ![1, h, 1024] i₂) hR w⟩ :: L) y
      = w (ix3 0 k (y 3)) := by
  let z : (rows i₁ i₂ h₀ hs h₁).shape.Idx := Fin.cons (⟨0, Nat.one_pos⟩ : Fin 1) (ix3 0 k (y 3) : (⟨3, ![1, h, 1024]⟩ : Shape).Idx)
  have hz : (rows i₁ i₂ h₀ hs h₁).emb z = y := by
    obtain ⟨a0, a1, a2, a3⟩ := rows_emb i₁ i₂ h₀ hs h₁ z
    funext a
    apply Fin.ext
    match a with
    | 0 => exact a0.trans e0.symm
    | 1 => exact a1.trans e1.symm
    | 2 => exact a2.trans e2.symm
    | 3 => exact a3
  rw [← hz]
  refine (View.canon_cons_emb _ _ _ z).trans ?_
  refine (Rect.payAlong_consLift (Rect.unit (s := S8x48x1024) ![p, r, 0] ![1, h, 1024] i₂) ![1, 8, 48, 1024] h₀ hs w hR z (ix3 0 k (y 3)) fun i => rfl).trans ?_
  rw [hz]

/-- and outside them. -/
theorem canon_miss (w : (rows i₁ i₂ h₀ hs h₁).shape.Idx → Val .f32) (L : List (View.Piece Val S4x8x48x1024 .f32))
    (y : S4x8x48x1024.Idx) (e : (y 0).val ≠ n ∨ (y 1).val ≠ p ∨ (y 2).val < r ∨ r + h ≤ (y 2).val) :
    View.canon (⟨rows i₁ i₂ h₀ hs h₁, w⟩ :: L) y = View.canon L y := by
  refine View.canon_cons_of_not_mem _ _ fun hy => ?_
  obtain ⟨z, hz⟩ := (rows i₁ i₂ h₀ hs h₁).exists_idx_of_mem hy
  have hz' : (rows i₁ i₂ h₀ hs h₁).emb z = y := hz
  obtain ⟨a0, a1, a2, a3⟩ := rows_emb i₁ i₂ h₀ hs h₁ z
  rw [hz'] at a0 a1 a2
  have z2 : (z 2).val < h := (z 2).isLt
  omega

/-- A load of such rows reads the stores before it. -/
theorem load {sig : RefSig} {κ : Kind} {sp : Space} (v : View sig κ sp S4x8x48x1024 .f32) (L : List (View.Piece Val S4x8x48x1024 .f32))
    (hR : (Rect.unit (s := S8x48x1024) ![p, r, 0] ![1, h, 1024] i₂).toLoadRect.shape.numel
      = ((Rect.unit (s := S4x8x48x1024) ![n, 0, 0, 0] S1x8x48x1024.size i₁).withinL
          ((Rect.unit (s := S8x48x1024) ![p, r, 0] ![1, h, 1024] i₂).toLoadRect.consLift ![1, 8, 48, 1024] h₀ hs) h₁).shape.numel)
    (x : (⟨3, ![1, h, 1024]⟩ : Shape).Idx) (y : S4x8x48x1024.Idx) (e0 : (y 0).val = n) (e1 : (y 1).val = p) (e2 : (y 2).val = r + (x 1).val)
    (e3 : (y 3).val = (x 2).val) :
    LoadRect.valAlong hR (v.readCov L ((Rect.unit (s := S4x8x48x1024) ![n, 0, 0, 0] S1x8x48x1024.size i₁).withinL
          ((Rect.unit (s := S8x48x1024) ![p, r, 0] ![1, h, 1024] i₂).toLoadRect.consLift ![1, 8, 48, 1024] h₀ hs) h₁)) x
      = View.canon L y := by
  rw [View.readCov_eq_canon']
  show View.canon L _ = _
  refine congrArg (View.canon L) ?_
  have hx := Shape.reshapeEquiv_cons_one (d := ![1, h, 1024]) hR x
  funext a
  apply Fin.ext
  have x0 : (x 0).val < 1 := (x 0).isLt
  obtain ⟨q, hq⟩ : ∃ q, q = Shape.reshapeEquiv hR x := ⟨_, rfl⟩
  rw [← hq]
  have hx' := hq.trans hx
  subst hx'
  match a with
  | 0 => refine Eq.trans ?_ e0.symm; show n + 0 + 1 * 0 = n; omega
  | 1 => refine Eq.trans ?_ e1.symm; show 0 + p + 1 * (x 0).val = p; omega
  | 2 => refine Eq.trans ?_ e2.symm; show 0 + r + 1 * (x 1).val = _; omega
  | 3 => refine Eq.trans ?_ e3.symm; show 0 + 0 + 1 * (x 2).val = _; omega
end

/-- One stream's padded window: zeros, then the history, then the new rows. -/
theorem window {n : ℕ} (W : ℕ → Fin 1024 → Val .f32) (L : List (View.Piece Val S4x8x48x1024 .f32))
    {iu iu' hu₀ hus hu₁ wu hRu ih ih' hh₀ hhs hh₁ wh hRh iz iz' hz₀ hzs hz₁ wz hRz}
    (eu : ∀ (k : Fin 16) (c : Fin 1024), wu (ix3 0 k c) = W (32 + k.val) c) (eh : ∀ (k : Fin 30) (c : Fin 1024), wh (ix3 0 k c) = W (2 + k.val) c)
    (ez : ∀ (k : Fin 8) (c : Fin 1024), k.val < 2 → wz (ix3 0 k c) = W k.val c)
    (y : S4x8x48x1024.Idx) (e0 : (y 0).val = n) (e1 : (y 1).val = 0) :
    View.canon (⟨rows (n := n) (p := 0) (r := 32) (h := 16) iu iu' hu₀ hus hu₁, Rect.payAlong (r := Rect.unit (s := S8x48x1024) ![0, 32, 0] ![1, 16, 1024] iu') hRu wu⟩
      :: ⟨rows (n := n) (p := 0) (r := 2) (h := 30) ih ih' hh₀ hhs hh₁, Rect.payAlong (r := Rect.unit (s := S8x48x1024) ![0, 2, 0] ![1, 30, 1024] ih') hRh wh⟩
      :: ⟨rows (n := n) (p := 0) (r := 0) (h := 8) iz iz' hz₀ hzs hz₁, Rect.payAlong (r := Rect.unit (s := S8x48x1024) ![0, 0, 0] ![1, 8, 1024] iz') hRz wz⟩ :: L) y
      = W (y 2).val (y 3) := by
  have y2 : (y 2).val < 48 := (y 2).isLt
  by_cases h1 : 32 ≤ (y 2).val
  · rw [canon_hit _ _ _ _ _ wu _ _ y e0 e1 ⟨(y 2).val - 32, by omega⟩ (by dsimp only; omega)]
    exact (eu _ (y 3)).trans (congrArg (W · (y 3)) (by dsimp only; omega))
  · rw [canon_miss _ _ _ _ _ _ _ y (by omega)]
    by_cases h2 : 2 ≤ (y 2).val
    · rw [canon_hit _ _ _ _ _ wh _ _ y e0 e1 ⟨(y 2).val - 2, by omega⟩ (by dsimp only; omega)]
      exact (eh _ (y 3)).trans (congrArg (W · (y 3)) (by dsimp only; omega))
    · rw [canon_miss _ _ _ _ _ _ _ y (by omega),
        canon_hit _ _ _ _ _ wz _ _ y e0 e1 ⟨(y 2).val, by omega⟩ (by dsimp only; omega)]
      exact ez _ (y 3) (by dsimp only; omega)

/-- A copy shifted by `p` rows, over what is right but for it. -/
theorem copy {n p : ℕ} (W : ℕ → Fin 1024 → Val .f32) (L : List (View.Piece Val S4x8x48x1024 .f32)) {i i' h₀ hs h₁ w hR}
    (hp : 0 < p) (ew : ∀ (k : Fin 40) (c : Fin 1024), w (ix3 0 k c) = W (k.val + p) c)
    (hL : ∀ y : S4x8x48x1024.Idx, (y 0).val = n → (y 1).val = 0 ∨ ((y 1).val < p ∧ (y 2).val < 40) → View.canon L y = W ((y 2).val + (y 1).val) (y 3))
    (y : S4x8x48x1024.Idx) (e0 : (y 0).val = n) (e : (y 1).val = 0 ∨ ((y 1).val < p + 1 ∧ (y 2).val < 40)) :
    View.canon (⟨rows (n := n) (p := p) (r := 0) (h := 40) i i' h₀ hs h₁, Rect.payAlong (r := Rect.unit (s := S8x48x1024) ![p, 0, 0] ![1, 40, 1024] i') hR w⟩ :: L) y
      = W ((y 2).val + (y 1).val) (y 3) := by
  by_cases h : (y 1).val = p
  · rw [canon_hit _ _ _ _ _ w _ _ y e0 h ⟨(y 2).val, by omega⟩ (by dsimp only; omega)]
    exact (ew _ (y 3)).trans (by rw [h])
  · rw [canon_miss _ _ _ _ _ _ _ y (by omega), hL y e0 (by omega)]

end Cert.ConvIdeal.Scratch

end
-- ==== Proof.ConvWin.lean ====
module
public import proofs.«01_k».proof.Defs
public import proofs.«01_k».proof.Proof.Gen.ConvIdeal.Skeleton
public import proofs.«01_k».proof.Proof.Scratch
public import Idealize.ShloMosaic.Lib.Pipeline.ValueKit
public import Idealize.ShloMosaic.Lib.KernelVsHost
public import proofs.«01_k».proof.Proof.Real
public import proofs.«01_k».proof.Proof.Common

set_option maxRecDepth 16384

namespace Cert.ConvIdeal.Conv

@[expose] public section
noncomputable section

open Idealize.SL Idealize.ShloMosaic Cert.ConvIdeal.Gen Cert.Layer

/-- The gated product of one row and channel: `a · σ(g)`, σ the logistic function. -/
def glu (x0 x1 : S64x1024.Idx → Ideal .f32) (r : Fin 64) (c : Fin 1024) : Elt Ideal .f32 :=
  x0 (ix2 r c) * Ideal.logistic (x1 (ix2 r c))

/-- Row `s` of the window of stream `n`: two rows of zeros, thirty of history, sixteen new ones. -/
def win (x0 x1 : S64x1024.Idx → Ideal .f32) (x2 : S4x30x1024.Idx → Ideal .f32) (n : Fin 4) (s : ℕ) (c : Fin 1024) : Elt Ideal .f32 :=
  if s < 2 then (0 : EReal) else if h : s < 32 then x2 (ix3 n ⟨s - 2, by omega⟩ c)
  else if h : s < 48 then glu x0 x1 ⟨16 * n.val + (s - 32), by omega⟩ c else (0 : EReal)

theorem win_zero (x0 x1 x2) (n : Fin 4) {s : ℕ} (c) (h : s < 2) : win x0 x1 x2 n s c = (0 : EReal) := by rw [win, if_pos h]
theorem win_hist (x0 x1 x2) (n : Fin 4) (k : Fin 30) (c) : win x0 x1 x2 n (2 + k.val) c = x2 (ix3 n k c) := by
  have := k.isLt
  rw [win, if_neg (by omega), dif_pos (by omega)]; congr 2; ext; simp
theorem win_new (x0 x1 x2) (n : Fin 4) (k : Fin 16) (c) : win x0 x1 x2 n (32 + k.val) c = glu x0 x1 ⟨16 * n.val + k.val, by omega⟩ c := by
  have := k.isLt
  rw [win, if_neg (by omega), dif_neg (by omega), dif_pos (by omega)]; congr 2; omega

/-- A window turned by `48 - p` rows and cut to forty is the window from row `p` on. -/
theorem turn {p : ℕ} {b : BitVec 32} (hb : b.toNat + p = 48) (hp : 0 < p) (hp' : p < 9) {v : S48x1024.Idx → Ideal .f32} {h1}
    {W : ℕ → Fin 1024 → Elt Ideal .f32} (hv : ∀ (k : Fin 48) (q : Fin 1024), v (ix2 k q) = W k.val q) (k : Fin 40) (q : Fin 1024) :
    shapeCast S1x40x1024 (extractStridedSlice S40x1024 ![0, 0] (dynamicRotate 0 b none v rotates_S48x1024_d0) slices_S48x1024_o0_0_S40x1024) h1 (ix3 0 k q) = W (k.val + p) q := by
  have := k.isLt
  pointwise []
  rw [hv]
  congr 1
  simp only []
  omega

/-- A load of `h` rows of copy `p` from row `r`, of stores that make the eight copies of the window `W`, reads `W` from row `p + r`. -/
theorem load {n p r h : ℕ} {W : ℕ → Fin 1024 → Elt Ideal .f32} {L : List (View.Piece (Elt Ideal) S4x8x48x1024 .f32)} (hn : n < 4)
    (hL : ∀ y : S4x8x48x1024.Idx, (y 0).val = n → (y 1).val = 0 ∨ (y 2).val < 40 → View.canon L y = W ((y 2).val + (y 1).val) (y 3))
    {sp : Space} {v : View sig .tc sp S4x8x48x1024 .f32} {i₁ : ∀ a, ![n, 0, 0, 0] a + S1x8x48x1024.size a ≤ S4x8x48x1024.size a}
    {i₂ : ∀ a, ![p, r, 0] a + ![1, h, 1024] a ≤ S8x48x1024.size a} {h₀ hs h₁}
    {hR : (Rect.unit (s := S8x48x1024) ![p, r, 0] ![1, h, 1024] i₂).toLoadRect.shape.numel
      = ((Rect.unit (s := S4x8x48x1024) ![n, 0, 0, 0] S1x8x48x1024.size i₁).withinL
          ((Rect.unit (s := S8x48x1024) ![p, r, 0] ![1, h, 1024] i₂).toLoadRect.consLift ![1, 8, 48, 1024] h₀ hs) h₁).shape.numel}
    (hp : p < 8 ∧ (p = 0 ∨ r + h ≤ 40)) {k : Fin h} {q : Fin 1024} {t : ℕ} (ht : r + k.val + p = t) :
    LoadRect.valAlong hR (v.readCov L
        ((Rect.unit (s := S4x8x48x1024) ![n, 0, 0, 0] S1x8x48x1024.size i₁).withinL
          ((Rect.unit (s := S8x48x1024) ![p, r, 0] ![1, h, 1024] i₂).toLoadRect.consLift ![1, 8, 48, 1024] h₀ hs) h₁)) (ix3 0 k q)
      = W t q := by
  have hk := k.isLt
  have hi : r + h ≤ 48 := i₂ 1
  refine (Scratch.load (n := n) (p := p) (r := r) _ _ _ _ _ _ _ _ (ix3 0 k q) (ix4 ⟨n, hn⟩ ⟨p, hp.1⟩ ⟨r + k.val, by omega⟩ q) rfl rfl rfl rfl).trans ?_
  refine (hL _ rfl ?_).trans (congrArg (W · q) ht)
  rcases hp.2 with h | h
  · exact Or.inl h
  · exact Or.inr (show r + k.val < 40 by omega)

/-- The running sum `f 0 + f 1 + … + f n`, added from the left. -/
def run (f : ℕ → EReal) : ℕ → EReal
  | 0 => f 0
  | n + 1 => run f n + f (n + 1)

theorem step {f : ℕ → EReal} {n : ℕ} {a l w : EReal} (ha : a = run f n) (hl : l * w = f (n + 1)) : a + l * w = run f (n + 1) := by rw [ha, hl]; rfl

/-- The `j`-th product of row `r` and channel `q` of stream `n`. -/
def prod (x0 x1 : S64x1024.Idx → Ideal .f32) (x2 : S4x30x1024.Idx → Ideal .f32) (x3 : S31x8x1024.Idx → Ideal .f32) (n : Fin 4) (r : Fin 16) (q : Fin 1024) (j : ℕ) : EReal :=
  win x0 x1 x2 n (2 + j + r.val) q * x3 (ix3 (Fin.ofNat 31 j) ⟨r.val % 8, by omega⟩ q)

/-- The row that is normalised: the convolution of row `r` of stream `n`, and the bias. -/
def row (x0 x1 : S64x1024.Idx → Ideal .f32) (x2 : S4x30x1024.Idx → Ideal .f32) (x3 : S31x8x1024.Idx → Ideal .f32) (x4 : S1x1024.Idx → Ideal .f32) (n : Fin 4) (r : Fin 16) (q : Fin 1024) : EReal :=
  run (prod x0 x1 x2 x3 n r q) 30 + x4 (ix2 0 q)

/-- `y · σ(y)`, as the kernel writes it. -/
def act (y : EReal) : EReal :=
  Ideal.ofBits .f32 0x3F000000#32 * y * Ideal.tanh (Ideal.ofBits .f32 0x3F000000#32 * y) + Ideal.ofBits .f32 0x3F000000#32 * y

end
end
end Cert.ConvIdeal.Conv
-- ==== Proof.ConvRun.lean ====
module
public import proofs.«01_k».proof.Defs
public import proofs.«01_k».proof.Proof.Gen.ConvIdeal.Value
public import proofs.«01_k».proof.Proof.ConvWin

set_option maxRecDepth 16384

namespace Cert.ConvIdeal.Conv

@[expose] public section
noncomputable section

open Idealize.SL Idealize.ShloMosaic Cert.ConvIdeal.Gen Cert.Layer
open Cert.ConvIdeal.Gen.kernelRun0_A

variable (c : Dev nD) (arg2 : Memref sig .tc .vmem S64x1024 .f32) (harg2 : arg2.IsWhole) (arg3 : Memref sig .tc .vmem S64x1024 .f32) (harg3 : arg3.IsWhole)
  (arg4 : Memref sig .tc .vmem S4x30x1024 .f32) (harg4 : arg4.IsWhole) (arg5 : Memref sig .tc .vmem S31x8x1024 .f32) (harg5 : arg5.IsWhole)
  (arg6 : Memref sig .tc .vmem S1x1024 .f32) (harg6 : arg6.IsWhole) (arg7 : Memref sig .tc .vmem S1x1024 .f32) (harg7 : arg7.IsWhole)
  (arg8 : Memref sig .tc .vmem S1x1024 .f32) (harg8 : arg8.IsWhole) (arg11 : Memref sig .tc .vmem S4x8x48x1024 .f32)
  (x0 : Vec Ideal S64x1024 .f32) (x1 : Vec Ideal S64x1024 .f32) (x2 : Vec Ideal S4x30x1024 .f32) (x3 : Vec Ideal S31x8x1024 .f32)
  (x4 : Vec Ideal S1x1024 .f32) (x5 : Vec Ideal S1x1024 .f32) (x6 : Vec Ideal S1x1024 .f32)

/-- Stream 0: the stores of its window make the window, -/
theorem win0 (y : S4x8x48x1024.Idx) (e0 : (y 0).val = 0) (e1 : (y 1).val = 0) :
    View.canon (sl.HS0_3 c arg2 harg2 arg3 harg3 arg4 harg4 x0 x1 x2) y = win x0 x1 x2 0 (y 2).val (y 3) := by
  unfold sl.HS0_3
  refine Scratch.window (win x0 x1 x2 0) _ ?_ ?_ ?_ y e0 e1
  · intro k q
    rw [win_new]
    pointwise [k0_pay5, View.readAt_eq_ld, Memref.IsWhole.read_unread]
    rw [logistic_eq]; unfold glu; pointwise []
  · intro k q
    rw [win_hist]
    pointwise [k0_pay4, View.readAt_eq_ld, Memref.IsWhole.read_unread]
  · intro k q hk
    rw [win_zero _ _ _ _ _ hk]
    pointwise [k0_pay3]

/-- which is loaded whole, -/
theorem whole0 (k : Fin 48) (q : Fin 1024) : sl.r c arg2 harg2 arg3 harg3 arg4 harg4 arg11 x0 x1 x2 (ix2 k q) = win x0 x1 x2 0 k.val q := by
  pointwise [sl.r, sl.v20, k0_pay6]
  refine (Scratch.load (n := 0) (p := 0) (r := 0) _ _ _ _ _ _ _ _ _ (ix4 0 0 k q) rfl rfl (Nat.zero_add _).symm rfl).trans ?_
  exact win0 c arg2 harg2 arg3 harg3 arg4 harg4 x0 x1 x2 _ rfl rfl

/-- and the later stores make its copies. -/
theorem copies0 (y : S4x8x48x1024.Idx) (e0 : (y 0).val = 0) (e : (y 1).val = 0 ∨ (y 2).val < 40) :
    View.canon (sl.HS0_10 c arg2 harg2 arg3 harg3 arg4 harg4 arg11 x0 x1 x2) y = win x0 x1 x2 0 ((y 2).val + (y 1).val) (y 3) := by
  have y1 : (y 1).val < 8 := (y 1).isLt
  have hw := whole0 c arg2 harg2 arg3 harg3 arg4 harg4 arg11 x0 x1 x2
  replace e : (y 1).val = 0 ∨ ((y 1).val < 7 + 1 ∧ (y 2).val < 40) := by omega
  clear y1
  unfold sl.HS0_10
  revert y
  iterate 7 refine fun y e0 e => Scratch.copy _ _ (by decide) (turn (by decide) (by decide) (by decide) hw) ?_ y e0 e
  intro y e0 e
  have h1 : (y 1).val = 0 := by omega
  rw [win0 _ _ _ _ _ _ _ _ _ _ y e0 h1, h1]; rfl

/-- Stream 1: the stores of its window make the window, -/
theorem win1 (y : S4x8x48x1024.Idx) (e0 : (y 0).val = 1) (e1 : (y 1).val = 0) :
    View.canon (sl.HS0_13 c arg2 harg2 arg3 harg3 arg4 harg4 arg11 x0 x1 x2) y = win x0 x1 x2 1 (y 2).val (y 3) := by
  unfold sl.HS0_13
  refine Scratch.window (win x0 x1 x2 1) _ ?_ ?_ ?_ y e0 e1
  · intro k q
    rw [win_new]
    pointwise [sl.v464, sl.r_26, k0_pay41, k0_pay40, View.readAt_eq_ld, Memref.IsWhole.read_unread]
    rw [logistic_eq]; unfold glu; pointwise []
  · intro k q
    rw [win_hist]
    pointwise [k0_pay39, View.readAt_eq_ld, Memref.IsWhole.read_unread]
  · intro k q hk
    rw [win_zero _ _ _ _ _ hk]
    pointwise [k0_pay38]

/-- which is loaded whole, -/
theorem whole1 (k : Fin 48) (q : Fin 1024) : sl.v468 c arg2 harg2 arg3 harg3 arg4 harg4 arg11 x0 x1 x2 (ix2 k q) = win x0 x1 x2 1 k.val q := by
  pointwise [sl.v468, sl.v467]
  refine (Scratch.load (n := 1) (p := 0) (r := 0) _ _ _ _ _ _ _ _ _ (ix4 1 0 k q) rfl rfl (Nat.zero_add _).symm rfl).trans ?_
  exact win1 c arg2 harg2 arg3 harg3 arg4 harg4 arg11 x0 x1 x2 _ rfl rfl

/-- and the later stores make its copies. -/
theorem copies1 (y : S4x8x48x1024.Idx) (e0 : (y 0).val = 1) (e : (y 1).val = 0 ∨ (y 2).val < 40) :
    View.canon (sl.HS0_20 c arg2 harg2 arg3 harg3 arg4 harg4 arg11 x0 x1 x2) y = win x0 x1 x2 1 ((y 2).val + (y 1).val) (y 3) := by
  have y1 : (y 1).val < 8 := (y 1).isLt
  have hw := whole1 c arg2 harg2 arg3 harg3 arg4 harg4 arg11 x0 x1 x2
  replace e : (y 1).val = 0 ∨ ((y 1).val < 7 + 1 ∧ (y 2).val < 40) := by omega
  clear y1
  unfold sl.HS0_20
  revert y
  iterate 7 refine fun y e0 e => Scratch.copy _ _ (by decide) (turn (by decide) (by decide) (by decide) hw) ?_ y e0 e
  intro y e0 e
  have h1 : (y 1).val = 0 := by omega
  rw [win1 _ _ _ _ _ _ _ _ _ _ _ y e0 h1, h1]; rfl

/-- Stream 2: the stores of its window make the window, -/
theorem win2 (y : S4x8x48x1024.Idx) (e0 : (y 0).val = 2) (e1 : (y 1).val = 0) :
    View.canon (sl.HS0_23 c arg2 harg2 arg3 harg3 arg4 harg4 arg11 x0 x1 x2) y = win x0 x1 x2 2 (y 2).val (y 3) := by
  unfold sl.HS0_23
  refine Scratch.window (win x0 x1 x2 2) _ ?_ ?_ ?_ y e0 e1
  · intro k q
    rw [win_new]
    pointwise [k0_pay72, View.readAt_eq_ld, Memref.IsWhole.read_unread]
    rw [logistic_eq]; unfold glu; pointwise []
  · intro k q
    rw [win_hist]
    pointwise [k0_pay71, View.readAt_eq_ld, Memref.IsWhole.read_unread]
  · intro k q hk
    rw [win_zero _ _ _ _ _ hk]
    pointwise [k0_pay70]

/-- which is loaded whole, -/
theorem whole2 (k : Fin 48) (q : Fin 1024) : sl.r_44 c arg2 harg2 arg3 harg3 arg4 harg4 arg11 x0 x1 x2 (ix2 k q) = win x0 x1 x2 2 k.val q := by
  pointwise [sl.r_44, sl.v914, k0_pay73]
  refine (Scratch.load (n := 2) (p := 0) (r := 0) _ _ _ _ _ _ _ _ _ (ix4 2 0 k q) rfl rfl (Nat.zero_add _).symm rfl).trans ?_
  exact win2 c arg2 harg2 arg3 harg3 arg4 harg4 arg11 x0 x1 x2 _ rfl rfl

/-- and the later stores make its copies. -/
theorem copies2 (y : S4x8x48x1024.Idx) (e0 : (y 0).val = 2) (e : (y 1).val = 0 ∨ (y 2).val < 40) :
    View.canon (sl.HS0_30 c arg2 harg2 arg3 harg3 arg4 harg4 arg11 x0 x1 x2) y = win x0 x1 x2 2 ((y 2).val + (y 1).val) (y 3) := by
  have y1 : (y 1).val < 8 := (y 1).isLt
  have hw := whole2 c arg2 harg2 arg3 harg3 arg4 harg4 arg11 x0 x1 x2
  replace e : (y 1).val = 0 ∨ ((y 1).val < 7 + 1 ∧ (y 2).val < 40) := by omega
  clear y1
  unfold sl.HS0_30
  revert y
  iterate 7 refine fun y e0 e => Scratch.copy _ _ (by decide) (turn (by decide) (by decide) (by decide) hw) ?_ y e0 e
  intro y e0 e
  have h1 : (y 1).val = 0 := by omega
  rw [win2 _ _ _ _ _ _ _ _ _ _ _ y e0 h1, h1]; rfl

/-- Stream 3: the stores of its window make the window, -/
theorem win3 (y : S4x8x48x1024.Idx) (e0 : (y 0).val = 3) (e1 : (y 1).val = 0) :
    View.canon (sl.HS0_33 c arg2 harg2 arg3 harg3 arg4 harg4 arg11 x0 x1 x2) y = win x0 x1 x2 3 (y 2).val (y 3) := by
  unfold sl.HS0_33
  refine Scratch.window (win x0 x1 x2 3) _ ?_ ?_ ?_ y e0 e1
  · intro k q
    rw [win_new]
    pointwise [k0_pay104, View.readAt_eq_ld, Memref.IsWhole.read_unread]
    rw [logistic_eq]; unfold glu; pointwise []
  · intro k q
    rw [win_hist]
    pointwise [k0_pay103, View.readAt_eq_ld, Memref.IsWhole.read_unread]
  · intro k q hk
    rw [win_zero _ _ _ _ _ hk]
    pointwise [k0_pay102]

/-- which is loaded whole, -/
theorem whole3 (k : Fin 48) (q : Fin 1024) : sl.v1362 c arg2 harg2 arg3 harg3 arg4 harg4 arg11 x0 x1 x2 (ix2 k q) = win x0 x1 x2 3 k.val q := by
  pointwise [sl.v1362, sl.v1361]
  refine (Scratch.load (n := 3) (p := 0) (r := 0) _ _ _ _ _ _ _ _ _ (ix4 3 0 k q) rfl rfl (Nat.zero_add _).symm rfl).trans ?_
  exact win3 c arg2 harg2 arg3 harg3 arg4 harg4 arg11 x0 x1 x2 _ rfl rfl

/-- and the later stores make its copies. -/
theorem copies3 (y : S4x8x48x1024.Idx) (e0 : (y 0).val = 3) (e : (y 1).val = 0 ∨ (y 2).val < 40) :
    View.canon (sl.HS0_40 c arg2 harg2 arg3 harg3 arg4 harg4 arg11 x0 x1 x2) y = win x0 x1 x2 3 ((y 2).val + (y 1).val) (y 3) := by
  have y1 : (y 1).val < 8 := (y 1).isLt
  have hw := whole3 c arg2 harg2 arg3 harg3 arg4 harg4 arg11 x0 x1 x2
  replace e : (y 1).val = 0 ∨ ((y 1).val < 7 + 1 ∧ (y 2).val < 40) := by omega
  clear y1
  unfold sl.HS0_40
  revert y
  iterate 7 refine fun y e0 e => Scratch.copy _ _ (by decide) (turn (by decide) (by decide) (by decide) hw) ?_ y e0 e
  intro y e0 e
  have h1 : (y 1).val = 0 := by omega
  rw [win3 _ _ _ _ _ _ _ _ _ _ _ y e0 h1, h1]; rfl

/-- Stream 0: its sum up to the 29th product, -/
theorem acc0 (r : Fin 16) (q : Fin 1024) :
    sl.r_20 c arg2 harg2 arg3 harg3 arg4 harg4 arg5 harg5 arg11 x0 x1 x2 x3 (ix3 ⟨r.val / 8, by omega⟩ ⟨r.val % 8, by omega⟩ q) = run (prod x0 x1 x2 x3 0 r q) 28 := by
  have hr := r.isLt
  pointwise [sl.r_20, sl.r_18, sl.r_19, sl.v369, sl.v380, sl.r_15, sl.r_16, sl.r_17, sl.v336, sl.v347, sl.v358, sl.r_12, sl.r_13, sl.r_14, sl.v303, sl.v314, sl.v325, sl.r_11, sl.v270, sl.v281, sl.v292, sl.r_10, sl.v237, sl.v248, sl.v259, sl.r_9, sl.v204, sl.v215, sl.v226, sl.r_7, sl.r_8, sl.v182, sl.v193, sl.r_5, sl.r_6, sl.v149, sl.v160, sl.v171, sl.r_2, sl.r_3, sl.r_4, sl.v116, sl.v127, sl.v138, sl.v75, sl.v78, sl.v83, sl.v94, sl.v105, sl.v74, sl.v77, sl.v73, k0_pay33, k0_pay31, k0_pay32, k0_pay29, k0_pay30, k0_pay26, k0_pay27, k0_pay28, k0_pay25, k0_pay24, k0_pay23, k0_pay22, k0_pay20, k0_pay21, k0_pay18, k0_pay19, View.readAt_eq_ld, Memref.IsWhole.read_unread]
  iterate 28 refine step ?_ (congrArg₂ (· * ·) (load (by decide) (copies0 c arg2 harg2 arg3 harg3 arg4 harg4 arg11 x0 x1 x2) (by decide) (by simp <;> omega)) rfl)
  exact congrArg₂ (· * ·) (load (by decide) (copies0 c arg2 harg2 arg3 harg3 arg4 harg4 arg11 x0 x1 x2) (by decide) (by simp <;> omega)) rfl

/-- Stream 1: its sum, -/
theorem acc1 (r : Fin 16) (q : Fin 1024) :
    sl.r_43 c arg2 harg2 arg3 harg3 arg4 harg4 arg5 harg5 arg11 x0 x1 x2 x3 (ix2 r q) = run (prod x0 x1 x2 x3 1 r q) 30 := by
  have hr := r.isLt
  pointwise [sl.r_43, sl.r_42, sl.v827, sl.v838, sl.v849, sl.r_41, sl.v794, sl.v805, sl.v816, sl.r_39, sl.r_40, sl.v772, sl.v783, sl.r_37, sl.r_38, sl.v739, sl.v750, sl.v761, sl.r_34, sl.r_35, sl.r_36, sl.v706, sl.v717, sl.v728, sl.r_33, sl.v673, sl.v684, sl.v695, sl.r_32, sl.v640, sl.v651, sl.v662, sl.r_31, sl.v607, sl.v618, sl.v629, sl.r_30, sl.v574, sl.v585, sl.v596, sl.r_28, sl.r_29, sl.v552, sl.v563, sl.v520, sl.v530, sl.v541, k0_pay67, k0_pay66, k0_pay65, k0_pay63, k0_pay64, k0_pay61, k0_pay62, k0_pay58, k0_pay59, k0_pay60, k0_pay57, k0_pay56, k0_pay55, k0_pay54, k0_pay52, k0_pay53, View.readAt_eq_ld, Memref.IsWhole.read_unread]
  iterate 30 refine step ?_ (congrArg₂ (· * ·) (load (by decide) (copies1 c arg2 harg2 arg3 harg3 arg4 harg4 arg11 x0 x1 x2) (by decide) (by simp <;> omega)) rfl)
  exact congrArg₂ (· * ·) (load (by decide) (copies1 c arg2 harg2 arg3 harg3 arg4 harg4 arg11 x0 x1 x2) (by decide) (by simp <;> omega)) rfl

/-- Stream 2: its sum up to the 29th product, -/
theorem acc2 (r : Fin 16) (q : Fin 1024) :
    sl.r_61 c arg2 harg2 arg3 harg3 arg4 harg4 arg5 harg5 arg11 x0 x1 x2 x3 (ix3 ⟨r.val / 8, by omega⟩ ⟨r.val % 8, by omega⟩ q) = run (prod x0 x1 x2 x3 2 r q) 28 := by
  have hr := r.isLt
  pointwise [sl.r_61, sl.r_60, sl.v1263, sl.v1274, sl.r_59, sl.v1230, sl.v1241, sl.v1252, sl.r_58, sl.v1197, sl.v1208, sl.v1219, sl.r_56, sl.r_57, sl.v1175, sl.v1186, sl.r_54, sl.r_55, sl.v1142, sl.v1153, sl.v1164, sl.r_51, sl.r_52, sl.r_53, sl.v1109, sl.v1120, sl.v1131, sl.r_49, sl.r_50, sl.v1076, sl.v1087, sl.v1098, sl.r_48, sl.v1043, sl.v1054, sl.v1065, sl.r_47, sl.v1010, sl.v1021, sl.v1032, sl.r_46, sl.v977, sl.v988, sl.v999, sl.v967, k0_pay97, k0_pay96, k0_pay95, k0_pay94, k0_pay92, k0_pay93, k0_pay90, k0_pay91, k0_pay87, k0_pay88, k0_pay89, k0_pay85, k0_pay86, k0_pay84, k0_pay83, k0_pay82, View.readAt_eq_ld, Memref.IsWhole.read_unread]
  iterate 28 refine step ?_ (congrArg₂ (· * ·) (load (by decide) (copies2 c arg2 harg2 arg3 harg3 arg4 harg4 arg11 x0 x1 x2) (by decide) (by simp <;> omega)) rfl)
  exact congrArg₂ (· * ·) (load (by decide) (copies2 c arg2 harg2 arg3 harg3 arg4 harg4 arg11 x0 x1 x2) (by decide) (by simp <;> omega)) rfl

/-- Stream 3: its sum up to the 28th product, -/
theorem acc3 (r : Fin 16) (q : Fin 1024) :
    sl.r_81 c arg2 harg2 arg3 harg3 arg4 harg4 arg5 harg5 arg11 x0 x1 x2 x3 (ix3 ⟨r.val / 8, by omega⟩ ⟨r.val % 8, by omega⟩ q) = run (prod x0 x1 x2 x3 3 r q) 27 := by
  have hr := r.isLt
  pointwise [sl.r_81, sl.r_78, sl.r_79, sl.r_80, sl.v1699, sl.v1710, sl.r_77, sl.v1666, sl.v1677, sl.v1688, sl.r_76, sl.v1633, sl.v1644, sl.v1655, sl.r_75, sl.v1600, sl.v1611, sl.v1622, sl.r_73, sl.r_74, sl.v1578, sl.v1589, sl.r_71, sl.r_72, sl.v1545, sl.v1556, sl.v1567, sl.r_68, sl.r_69, sl.r_70, sl.v1512, sl.v1523, sl.v1534, sl.r_65, sl.r_66, sl.r_67, sl.v1479, sl.v1490, sl.v1501, sl.r_64, sl.v1446, sl.v1457, sl.v1468, sl.v1414, sl.v1424, sl.v1435, k0_pay129, k0_pay126, k0_pay127, k0_pay128, k0_pay125, k0_pay124, k0_pay123, k0_pay122, k0_pay120, k0_pay121, k0_pay118, k0_pay119, k0_pay115, k0_pay116, k0_pay117, k0_pay114, View.readAt_eq_ld, Memref.IsWhole.read_unread]
  iterate 27 refine step ?_ (congrArg₂ (· * ·) (load (by decide) (copies3 c arg2 harg2 arg3 harg3 arg4 harg4 arg11 x0 x1 x2) (by decide) (by simp <;> omega)) rfl)
  exact congrArg₂ (· * ·) (load (by decide) (copies3 c arg2 harg2 arg3 harg3 arg4 harg4 arg11 x0 x1 x2) (by decide) (by simp <;> omega)) rfl

end
end
end Cert.ConvIdeal.Conv
-- ==== Proof.ConvPay.lean ====
/- What the last steps of a stream of the convolution compute, of any arrays: the sums of the last products, the LayerNorm of the row, and `y · σ(y)`. -/
module
public import proofs.«01_k».proof.Defs
public import proofs.«01_k».proof.Proof.Gen.ConvIdeal.Skeleton
public import proofs.«01_k».proof.Proof.ConvWin

set_option maxRecDepth 16384

@[expose] public section
noncomputable section

open Idealize.SL Idealize.ShloMosaic Cert.ConvIdeal.Gen Cert.Layer

namespace Cert.ConvIdeal.Conv

/-- The last step of stream 1: bias, LayerNorm and activation of a sum. -/
theorem pay68_at (a : FVec Ideal S16x1024 .f32) (b g h : Vec Ideal S1x1024 .f32) (r : Fin 16) (q : Fin 1024) :
    k0_pay68 (F := Ideal) a b g h (ix2 r q) = act (ln 0x44800000#32 (fun k => a (ix2 r k) + b (ix2 0 k)) (g (ix2 0 q)) (h (ix2 0 q)) q) := by
  pointwise [k0_pay68, act, ln, mean]

/-- The step before the last of stream 2: two more products, the bias and the LayerNorm. -/
theorem pay99_at (s p : FVec Ideal S2x8x1024 .f32) (v : Vec Ideal S1x16x1024 .f32) (w : Vec Ideal S1x8x1024 .f32) (b g h : Vec Ideal S1x1024 .f32) (r : Fin 16) (q : Fin 1024) :
    k0_pay99 (F := Ideal) s p v w b g h (ix2 r q)
      = ln 0x44800000#32 (fun k => s (ix3 ⟨r.val / 8, by omega⟩ ⟨r.val % 8, by omega⟩ k) + p (ix3 ⟨r.val / 8, by omega⟩ ⟨r.val % 8, by omega⟩ k)
          + v (ix3 0 r k) * w (ix3 0 ⟨r.val % 8, by omega⟩ k) + b (ix2 0 k)) (g (ix2 0 q)) (h (ix2 0 q)) q := by
  pointwise [k0_pay99, ln, mean]

/-- The last step of stream 2: the activation. -/
theorem pay100_at (y : FVec Ideal S16x1024 .f32) (r : Fin 16) (q : Fin 1024) :
    k0_pay100 (F := Ideal) y (Ideal.ofBits .f32 0x3F000000#32) (ix2 r q) = act (y (ix2 r q)) := by
  pointwise [k0_pay100, act]

/-- The difference of a row from its mean, of stream 0. -/
theorem pay34_at (s : FVec Ideal S2x8x1024 .f32) (v : Vec Ideal S1x16x1024 .f32) (w : Vec Ideal S1x8x1024 .f32) (v' : Vec Ideal S1x16x1024 .f32) (w' : Vec Ideal S1x8x1024 .f32)
    (b : Vec Ideal S1x1024 .f32) (r : Fin 16) (q : Fin 1024) (z : Fin 1024 → EReal)
    (hz : ∀ k, s (ix3 ⟨r.val / 8, by omega⟩ ⟨r.val % 8, by omega⟩ k) + v (ix3 0 r k) * w (ix3 0 ⟨r.val % 8, by omega⟩ k)
      + v' (ix3 0 r k) * w' (ix3 0 ⟨r.val % 8, by omega⟩ k) + b (ix2 0 k) = z k) :
    k0_pay34 (F := Ideal) s v w v' w' b (ix2 r q) = z q - mean 0x44800000#32 z := by
  obtain rfl := funext hz
  pointwise [k0_pay34, mean]

/-- The mean of the squares of such differences. -/
theorem pay35_at (s : FVec Ideal S2x8x1024 .f32) (v : Vec Ideal S1x16x1024 .f32) (w : Vec Ideal S1x8x1024 .f32) (v' : Vec Ideal S1x16x1024 .f32) (w' : Vec Ideal S1x8x1024 .f32)
    (b : Vec Ideal S1x1024 .f32) (r : Fin 16) (z : Fin 1024 → EReal) (hz : ∀ q, k0_pay34 (F := Ideal) s v w v' w' b (ix2 r q) = z q) :
    k0_pay35 (F := Ideal) s v w v' w' b (ix2 r 0) = mean 0x44800000#32 (fun k => z k * z k) := by
  obtain rfl := funext hz
  pointwise [k0_pay35, mean]

/-- The last step of stream 0. -/
theorem pay36_at (g h : Vec Ideal S1x1024 .f32) (d : FVec Ideal S16x1024 .f32) (u : FVec Ideal S16x1 .f32) (r : Fin 16) (q : Fin 1024) :
    k0_pay36 (F := Ideal) g h d u (Ideal.ofBits .f32 0x3727C5AC#32) (ix2 r q)
      = act (d (ix2 r q) * Ideal.rsqrt (u (ix2 r 0) + Ideal.ofBits .f32 0x3727C5AC#32) * g (ix2 0 q) + h (ix2 0 q)) := by
  pointwise [k0_pay36, act]

/-- The last step of stream 3: LayerNorm and activation of a row whose sum is given. -/
theorem pay1_at (z : FVec Ideal S16x1024 .f32) (g h : Vec Ideal S1x1024 .f32) (r : Fin 16) (q : Fin 1024) :
    k0_pay1 (F := Ideal) z g h (k0_pay132 z) (Ideal.ofBits .f32 0x44800000#32) (ix2 r q)
      = act (ln 0x44800000#32 (fun k => z (ix2 r k)) (g (ix2 0 q)) (h (ix2 0 q)) q) := by
  pointwise [k0_pay1, k0_pay132, act, ln, mean]

end Cert.ConvIdeal.Conv
end
end
-- ==== Proof.ConvEnd.lean ====
/- The convolution of every stream of a block: what each of the four stores of the first result writes. -/
module
public import proofs.«01_k».proof.Defs
public import proofs.«01_k».proof.Proof.ConvRun
public import proofs.«01_k».proof.Proof.ConvPay

set_option maxRecDepth 16384

namespace Cert.ConvIdeal.Conv

@[expose] public section
noncomputable section

open Idealize.SL Idealize.ShloMosaic Cert.ConvIdeal.Gen Cert.Layer
open Cert.ConvIdeal.Gen.kernelRun0_A

variable (c : Dev nD) (arg2 : Memref sig .tc .vmem S64x1024 .f32) (harg2 : arg2.IsWhole) (arg3 : Memref sig .tc .vmem S64x1024 .f32) (harg3 : arg3.IsWhole)
  (arg4 : Memref sig .tc .vmem S4x30x1024 .f32) (harg4 : arg4.IsWhole) (arg5 : Memref sig .tc .vmem S31x8x1024 .f32) (harg5 : arg5.IsWhole)
  (arg6 : Memref sig .tc .vmem S1x1024 .f32) (harg6 : arg6.IsWhole) (arg7 : Memref sig .tc .vmem S1x1024 .f32) (harg7 : arg7.IsWhole)
  (arg8 : Memref sig .tc .vmem S1x1024 .f32) (harg8 : arg8.IsWhole) (arg11 : Memref sig .tc .vmem S4x8x48x1024 .f32)
  (x0 : Vec Ideal S64x1024 .f32) (x1 : Vec Ideal S64x1024 .f32) (x2 : Vec Ideal S4x30x1024 .f32) (x3 : Vec Ideal S31x8x1024 .f32)
  (x4 : Vec Ideal S1x1024 .f32) (x5 : Vec Ideal S1x1024 .f32) (x6 : Vec Ideal S1x1024 .f32)

/-- Entry `(r, q)` of stream `n` of a block of the first result. -/
def out (x0 x1 : S64x1024.Idx → Ideal .f32) (x2 : S4x30x1024.Idx → Ideal .f32) (x3 : S31x8x1024.Idx → Ideal .f32) (x4 x5 x6 : S1x1024.Idx → Ideal .f32)
    (n : Fin 4) (r : Fin 16) (q : Fin 1024) : EReal :=
  act (ln 0x44800000#32 (row x0 x1 x2 x3 x4 n r) (x5 (ix2 0 q)) (x6 (ix2 0 q)) q)

/-- A row stored beside the block is read whole. -/
theorem read1 (a : Memref sig .tc .vmem S1x1024 .f32) (ha : a.IsWhole) (x : Vec Ideal S1x1024 .f32) (q : Fin 1024) :
    View.readAt (Elt Ideal) a.view (Rect.unit ![0, 0] S1x1024.size inb_S1x1024_S1x1024_0_0).toLoadRect (ha.unread x) (ix2 0 q) = x (ix2 0 q) := by
  pointwise [View.readAt_eq_ld, Memref.IsWhole.read_unread]

/-- Stream 0: the row less its mean, -/
theorem diff0 (r : Fin 16) (q : Fin 1024) :
    sl.r_24 c arg2 harg2 arg3 harg3 arg4 harg4 arg5 harg5 arg6 harg6 arg11 x0 x1 x2 x3 x4 (ix2 r q) = row x0 x1 x2 x3 x4 0 r q - mean 0x44800000#32 (row x0 x1 x2 x3 x4 0 r) := by
  have hr := r.isLt
  unfold sl.r_24
  refine pay34_at _ _ _ _ _ _ r q (row x0 x1 x2 x3 x4 0 r) fun k => ?_
  pointwise [row, sl.r_21, sl.v391, sl.v402, View.readAt_eq_ld, Memref.IsWhole.read_unread]
  exact congrArg₂ (· + ·) (step (step (acc0 c arg2 harg2 arg3 harg3 arg4 harg4 arg5 harg5 arg11 x0 x1 x2 x3 r k) (congrArg₂ (· * ·) (load (by decide) (copies0 c arg2 harg2 arg3 harg3 arg4 harg4 arg11 x0 x1 x2) (by decide) (by simp <;> omega)) rfl)) (congrArg₂ (· * ·) (load (by decide) (copies0 c arg2 harg2 arg3 harg3 arg4 harg4 arg11 x0 x1 x2) (by decide) (by simp <;> omega)) rfl)) rfl

/-- and what is stored. -/
theorem end0 (r : Fin 16) (q : Fin 1024) :
    k0_pay36 (F := Ideal) (sl.r_22 c arg7 harg7 x5) (sl.r_23 c arg8 harg8 x6) (sl.r_24 c arg2 harg2 arg3 harg3 arg4 harg4 arg5 harg5 arg6 harg6 arg11 x0 x1 x2 x3 x4) (sl.r_25 c arg2 harg2 arg3 harg3 arg4 harg4 arg5 harg5 arg6 harg6 arg11 x0 x1 x2 x3 x4) sl.cst_359 (ix2 r q)
      = out x0 x1 x2 x3 x4 x5 x6 0 r q := by
  refine (pay36_at _ _ _ _ r q).trans ?_
  rw [diff0]
  unfold sl.r_25
  rw [pay35_at _ _ _ _ _ _ r _ (diff0 c arg2 harg2 arg3 harg3 arg4 harg4 arg5 harg5 arg6 harg6 arg11 x0 x1 x2 x3 x4 r)]
  unfold sl.r_22 sl.r_23
  rw [read1, read1]
  rfl

/-- Stream 1. -/
theorem end1 (r : Fin 16) (q : Fin 1024) :
    k0_pay68 (F := Ideal) (sl.r_43 c arg2 harg2 arg3 harg3 arg4 harg4 arg5 harg5 arg11 x0 x1 x2 x3) (View.readAt (Elt Ideal) arg6.view (Rect.unit ![0, 0] S1x1024.size inb_S1x1024_S1x1024_0_0).toLoadRect (harg6.unread x4)) (View.readAt (Elt Ideal) arg7.view (Rect.unit ![0, 0] S1x1024.size inb_S1x1024_S1x1024_0_0).toLoadRect (harg7.unread x5))
      (View.readAt (Elt Ideal) arg8.view (Rect.unit ![0, 0] S1x1024.size inb_S1x1024_S1x1024_0_0).toLoadRect (harg8.unread x6)) (ix2 r q) = out x0 x1 x2 x3 x4 x5 x6 1 r q := by
  refine (pay68_at _ _ _ _ r q).trans (congrArg act (ln_congr (fun k => ?_) (read1 _ _ _ _) (read1 _ _ _ _) rfl))
  exact congrArg₂ (· + ·) (acc1 c arg2 harg2 arg3 harg3 arg4 harg4 arg5 harg5 arg11 x0 x1 x2 x3 r k) (read1 _ _ _ _)

/-- Stream 2. -/
theorem end2 (r : Fin 16) (q : Fin 1024) :
    k0_pay100 (F := Ideal) (sl.r_63 c arg2 harg2 arg3 harg3 arg4 harg4 arg5 harg5 arg6 harg6 arg7 harg7 arg8 harg8 arg11 x0 x1 x2 x3 x4 x5 x6) sl.cst_1172 (ix2 r q) = out x0 x1 x2 x3 x4 x5 x6 2 r q := by
  have hr := r.isLt
  unfold sl.r_63
  refine (pay100_at _ r q).trans (congrArg act ((pay99_at _ _ _ _ _ _ _ r q).trans (ln_congr (fun k => ?_) (read1 _ _ _ _) (read1 _ _ _ _) rfl)))
  pointwise [row, sl.r_62, k0_pay98, sl.v1285, sl.v1296, View.readAt_eq_ld, Memref.IsWhole.read_unread]
  exact congrArg₂ (· + ·) (step (step (acc2 c arg2 harg2 arg3 harg3 arg4 harg4 arg5 harg5 arg11 x0 x1 x2 x3 r k) (congrArg₂ (· * ·) (load (by decide) (copies2 c arg2 harg2 arg3 harg3 arg4 harg4 arg11 x0 x1 x2) (by decide) (by simp <;> omega)) rfl)) (congrArg₂ (· * ·) (load (by decide) (copies2 c arg2 harg2 arg3 harg3 arg4 harg4 arg11 x0 x1 x2) (by decide) (by simp <;> omega)) rfl)) rfl

/-- Stream 3: the row, -/
theorem row3 (r : Fin 16) (q : Fin 1024) : sl.r_84 c arg2 harg2 arg3 harg3 arg4 harg4 arg5 harg5 arg6 harg6 arg11 x0 x1 x2 x3 x4 (ix2 r q) = row x0 x1 x2 x3 x4 3 r q := by
  have hr := r.isLt
  pointwise [row, sl.r_84, sl.r_82, sl.r_83, sl.v1721, sl.v1732, sl.v1743, k0_pay131, k0_pay130, View.readAt_eq_ld, Memref.IsWhole.read_unread]
  exact congrArg₂ (· + ·) (step (step (step (acc3 c arg2 harg2 arg3 harg3 arg4 harg4 arg5 harg5 arg11 x0 x1 x2 x3 r q) (congrArg₂ (· * ·) (load (by decide) (copies3 c arg2 harg2 arg3 harg3 arg4 harg4 arg11 x0 x1 x2) (by decide) (by simp <;> omega)) rfl)) (congrArg₂ (· * ·) (load (by decide) (copies3 c arg2 harg2 arg3 harg3 arg4 harg4 arg11 x0 x1 x2) (by decide) (by simp <;> omega)) rfl)) (congrArg₂ (· * ·) (load (by decide) (copies3 c arg2 harg2 arg3 harg3 arg4 harg4 arg11 x0 x1 x2) (by decide) (by simp <;> omega)) rfl)) rfl

/-- and what is stored. -/
theorem end3 (r : Fin 16) (q : Fin 1024) :
    k0_pay1 (F := Ideal) (sl.r_84 c arg2 harg2 arg3 harg3 arg4 harg4 arg5 harg5 arg6 harg6 arg11 x0 x1 x2 x3 x4) (sl.r_22 c arg7 harg7 x5) (sl.r_23 c arg8 harg8 x6) (sl.r_85 c arg2 harg2 arg3 harg3 arg4 harg4 arg5 harg5 arg6 harg6 arg11 x0 x1 x2 x3 x4) sl.cst_1573 (ix2 r q)
      = out x0 x1 x2 x3 x4 x5 x6 3 r q :=
  (pay1_at _ _ _ r q).trans (congrArg act (ln_congr (row3 c arg2 harg2 arg3 harg3 arg4 harg4 arg5 harg5 arg6 harg6 arg11 x0 x1 x2 x3 x4 r) (read1 _ _ _ _) (read1 _ _ _ _) rfl))

end
end
end Cert.ConvIdeal.Conv
-- ==== Proof.ConvTail.lean ====
/- The second result of the convolution: the last thirty rows of every stream. -/
module
public import proofs.«01_k».proof.Defs
public import proofs.«01_k».proof.Proof.ConvRun
public import proofs.«01_k».proof.Proof.Gen.ConvRefIdeal.Read

set_option maxRecDepth 16384

@[expose] public section
noncomputable section

open Idealize.SL Idealize.ShloMosaic Idealize.ShloMosaic.TcCoe Cert.Layer

namespace Cert.ConvRefIdeal.Conv
open Cert.ConvRefIdeal Cert.ConvRefIdeal.Read

/-- Row `r` of stream `n` before the convolution: the history and then the gated new rows. -/
theorem ext_hist (x0 : FVec Ideal S512x6144 .f32) (x1 : FVec Ideal S32x30x1024 .f32) (n : Fin 32) (s : Fin 46) (q : Fin 1024) (h : s.val < 30) :
    val_main_v11 (F := Ideal) x0 x1 (ix3 n s q) = x1 (ix3 n ⟨s.val, h⟩ q) := by
  pointwise [val_main_v11]
  rw [dif_pos h]

theorem ext_new (x0 : FVec Ideal S512x6144 .f32) (x1 : FVec Ideal S32x30x1024 .f32) (n : Fin 32) (s : Fin 46) (q : Fin 1024) (h : ¬s.val < 30) :
    val_main_v11 (F := Ideal) x0 x1 (ix3 n s q)
      = x0 (ix2 ⟨n.val * 16 + (s.val - 30), by omega⟩ ⟨q.val, by omega⟩) * Ideal.logistic (x0 (ix2 ⟨n.val * 16 + (s.val - 30), by omega⟩ ⟨1024 + q.val, by omega⟩)) := by
  pointwise [val_main_v11, val_main_v10, val_main_v9, val_main_v8, val_main_v7, val_main_v6, val_main_v5, val_main_v4, val_main_v3, val_main_v2, val_main_v1, val_main_v0, val_main_cst, val_main_cst_0, Ideal.logistic]
  rw [dif_neg h]
end Cert.ConvRefIdeal.Conv
namespace Cert.ConvIdeal.Conv

open Cert.ConvIdeal Cert.ConvIdeal.Gen Cert.ConvIdeal.Gen.kernelRun0_A

variable (m : (ℓ : Loc nD τ sig) → Buf (Elt Ideal) ℓ)

/-- Where the windows' blocks lie. -/
theorem idx : ∀ t : Fin cfg0.N, win0_0.index t = ![(grid0.coords t 0).val, 0] ∧ win0_1.index t = ![(grid0.coords t 0).val, 1]
    ∧ win0_2.index t = ![(grid0.coords t 0).val, 0, 0] ∧ win0_3.index t = ![0, 0, 0] ∧ win0_4.index t = ![0, 0]
    ∧ win0_5.index t = ![0, 0] ∧ win0_6.index t = ![0, 0] ∧ win0_7.index t = ![(grid0.coords t 0).val, 0] ∧ win0_8.index t = ![(grid0.coords t 0).val, 0, 0] :=
  (by decide +kernel : ∀ t : Fin grid0.N, _)

/-- The window of a stream at a grid point is the reference's rows, after two rows of zeros. -/
theorem win_eq (c : Dev nD) (t : Fin cfg0.N) (n : Fin 4) (s : Fin 46) (q : Fin 1024) (N : Fin 32) (hN : N.val = (grid0.coords t 0).val * 4 + n.val) :
    win (iblk m c 0 t) (iblk m c 1 t) (iblk m c 2 t) n (2 + s.val) q
      = Cert.ConvRefIdeal.Read.val_main_v11 (F := Ideal) (m ((c : Thread nD τ).loc main_arg0)) (m ((c : Thread nD τ).loc main_arg1)) (ix3 N s q) := by
  have hs := s.isLt
  by_cases h : s.val < 30
  · rw [Cert.ConvRefIdeal.Conv.ext_hist _ _ _ _ _ h, win_hist _ _ _ _ ⟨s.val, h⟩]
    blk_point [iblk, V, idx t]
  · rw [Cert.ConvRefIdeal.Conv.ext_new _ _ _ _ _ h, show 2 + s.val = 32 + (⟨s.val - 30, by omega⟩ : Fin 16).val by simp; omega, win_new]
    unfold glu
    blk_point [iblk, V, idx t]
theorem row_of (x : S1x30x1024.Idx) : ∃ (k : Fin 30) (q : Fin 1024), x = ix3 (0 : Fin 1) k q :=
  ⟨x 1, x 2, funext fun a => match a with | 0 => @Subsingleton.elim (Fin 1) _ _ _ | 1 => rfl | 2 => rfl⟩

section
open Cert.ConvIdeal.Gen.kernelRun0_A

variable (c : Dev nD) (arg2 : Memref sig .tc .vmem S64x1024 .f32) (harg2 : arg2.IsWhole) (arg3 : Memref sig .tc .vmem S64x1024 .f32) (harg3 : arg3.IsWhole)
  (arg4 : Memref sig .tc .vmem S4x30x1024 .f32) (harg4 : arg4.IsWhole) (arg11 : Memref sig .tc .vmem S4x8x48x1024 .f32)
  (x0 : Vec Ideal S64x1024 .f32) (x1 : Vec Ideal S64x1024 .f32) (x2 : Vec Ideal S4x30x1024 .f32)

/-- Rows 18 to 47 of a stream's window are what the kernel stores as its tail: of stream 0, -/
theorem tail0 {hR} (x : S1x30x1024.Idx) :
    k0_pay37 (F := Ideal) (LoadRect.valAlong (lr := (Rect.unit (s := S8x48x1024) ![0, 18, 0] S1x30x1024.size inb_S8x48x1024_S1x30x1024_0_18_0).toLoadRect) hR
      (sl.v1790 c arg2 harg2 arg3 harg3 arg4 harg4 arg11 x0 x1 x2)) x = win x0 x1 x2 0 (2 + (16 + (x 1).val)) (x 2) := by
  obtain ⟨k, q, rfl⟩ := row_of x
  pointwise [k0_pay37, sl.v1790]
  exact load (W := win x0 x1 x2 0) (t := 2 + (16 + k.val)) (by decide) (copies0 c arg2 harg2 arg3 harg3 arg4 harg4 arg11 x0 x1 x2) (by decide) (by omega)

/-- of stream 1, -/
theorem tail1 {hR} (x : S1x30x1024.Idx) :
    k0_pay69 (F := Ideal) (LoadRect.valAlong (lr := (Rect.unit (s := S8x48x1024) ![0, 18, 0] S1x30x1024.size inb_S8x48x1024_S1x30x1024_0_18_0).toLoadRect) hR
      (sl.v1790_1 c arg2 harg2 arg3 harg3 arg4 harg4 arg11 x0 x1 x2)) x = win x0 x1 x2 1 (2 + (16 + (x 1).val)) (x 2) := by
  obtain ⟨k, q, rfl⟩ := row_of x
  pointwise [k0_pay69, sl.v1790_1]
  exact load (W := win x0 x1 x2 1) (t := 2 + (16 + k.val)) (by decide) (copies1 c arg2 harg2 arg3 harg3 arg4 harg4 arg11 x0 x1 x2) (by decide) (by omega)

/-- of stream 2, -/
theorem tail2 {hR} (x : S1x30x1024.Idx) :
    k0_pay101 (F := Ideal) (LoadRect.valAlong (lr := (Rect.unit (s := S8x48x1024) ![0, 18, 0] S1x30x1024.size inb_S8x48x1024_S1x30x1024_0_18_0).toLoadRect) hR
      (sl.v1790_2 c arg2 harg2 arg3 harg3 arg4 harg4 arg11 x0 x1 x2)) x = win x0 x1 x2 2 (2 + (16 + (x 1).val)) (x 2) := by
  obtain ⟨k, q, rfl⟩ := row_of x
  pointwise [k0_pay101, sl.v1790_2]
  exact load (W := win x0 x1 x2 2) (t := 2 + (16 + k.val)) (by decide) (copies2 c arg2 harg2 arg3 harg3 arg4 harg4 arg11 x0 x1 x2) (by decide) (by omega)

/-- and of stream 3. -/
theorem tail3 {hR} (x : S1x30x1024.Idx) :
    k0_pay2 (F := Ideal) (LoadRect.valAlong (lr := (Rect.unit (s := S8x48x1024) ![0, 18, 0] S1x30x1024.size inb_S8x48x1024_S1x30x1024_0_18_0).toLoadRect) hR
      (sl.v1790_3 c arg2 harg2 arg3 harg3 arg4 harg4 arg11 x0 x1 x2)) x = win x0 x1 x2 3 (2 + (16 + (x 1).val)) (x 2) := by
  obtain ⟨k, q, rfl⟩ := row_of x
  pointwise [k0_pay2, sl.v1790_3]
  exact load (W := win x0 x1 x2 3) (t := 2 + (16 + k.val)) (by decide) (copies3 c arg2 harg2 arg3 harg3 arg4 harg4 arg11 x0 x1 x2) (by decide) (by omega)

end

/-- The last thirty rows of stream `n` of a block, in the reference's array. -/
theorem last (c : Dev nD) (t : Fin cfg0.N) (n : Fin 4) (x : S1x30x1024.Idx) (y : S4x30x1024.Idx) (h0 : (y 0).val = n.val + (x 0).val)
    (h1 : (y 1).val = (x 1).val) (h2 : (y 2).val = (x 2).val) :
    win (iblk m c 0 t) (iblk m c 1 t) (iblk m c 2 t) n (2 + (16 + (x 1).val)) (x 2)
      = Cert.ConvRefIdeal.Read.val_main_v258 (F := Ideal) (m ((c : Thread nD τ).loc main_arg0)) (m ((c : Thread nD τ).loc main_arg1))
        (((View.whole main_v2_1).slice (win0_8.rect t)).emb y) := by
  have x0 : (x 0).val < 1 := (x 0).isLt
  have x1 : (x 1).val < 30 := (x 1).isLt
  have ht : (grid0.coords t 0).val < 8 := (grid0.coords t 0).isLt
  refine (win_eq m c t n ⟨16 + (x 1).val, by omega⟩ (x 2) ⟨(grid0.coords t 0).val * 4 + n.val, by omega⟩ rfl).trans ?_
  blk_point [Cert.ConvRefIdeal.Read.val_main_v258, idx t]
  · show _ = (grid0.coords t 0).val * 4 + (y 0).val
    omega
  · show _ = 16 + (0 * 30 + (y 1).val)
    omega
  · show _ = 0 * 1024 + (y 2).val
    omega

/-- The tail array of the kernel is the reference's. -/
theorem tail_eq (c : Dev nD) : (dats m 0 c).arrAt 8 cfg0.N
    = Cert.ConvRefIdeal.Read.val_main_v258 (F := Ideal) (m ((c : Thread nD τ).loc main_arg0)) (m ((c : Thread nD τ).loc main_arg1)) := by
  refine (dats m 0 c).arrAt_eq_of_covers 8 _ (by decide +kernel) fun t hf y => ?_
  blk_simp
  rw [after0_8]
  unfold outsAt0 out0_A_8
  dsimp only
  rw [View.read_writes_junk_eq_canon]
  unfold kernelRun0_A
  dsimp only
  canon_tiles x h
  · exact (tail3 _ _ _ _ _ _ _ _ _ _ _ x).trans (last m c t 3 x y h0 h1 h2)
  · exact (tail2 _ _ _ _ _ _ _ _ _ _ _ x).trans (last m c t 2 x y h0 h1 h2)
  · exact (tail1 _ _ _ _ _ _ _ _ _ _ _ x).trans (last m c t 1 x y h0 h1 h2)
  · exact (tail0 _ _ _ _ _ _ _ _ _ _ _ x).trans (last m c t 0 x y (by omega) h1 h2)
end Cert.ConvIdeal.Conv
-- ==== Proof.LnReal.lean ====
/- The LayerNorm of a row of real numbers is real. -/
module
public import proofs.«01_k».proof.Proof.Common
public import proofs.«01_k».proof.Proof.Real

@[expose] public section

set_option maxRecDepth 16384

noncomputable section

open Idealize.ShloMosaic

namespace Cert.Layer

/-- A difference of real numbers is a real number. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- A value of the logistic function of a real number is a real number. -/
theorem IsReal.logistic {x : EReal} (hx : IsReal x) : IsReal (Ideal.logistic x) := by
  obtain ⟨a, rfl⟩ := hx; exact ⟨_, Ideal.logistic_coe a⟩

/-- The divisor 1024, -/
theorem word1024 : Ideal.ofBits .f32 0x44800000#32 = ((1024 : ℝ) : EReal) := by
  simp [Ideal.ofBits, Ideal.ieee, -EReal.coe_mul]; norm_num

/-- and the constant under the root is a positive number. -/
theorem eps_pos : ∃ e : ℝ, 0 < e ∧ Ideal.ofBits .f32 0x3727C5AC#32 = (e : EReal) := by
  refine ⟨_, ?_, by simp [Ideal.ofBits, Ideal.ieee, -EReal.coe_mul]; rfl⟩
  positivity

/-- A finite sum of real numbers, as a real number. -/
theorem coe_sum {n : ℕ} (f : Fin n → ℝ) : (∑ k, ((f k : ℝ) : EReal)) = ((∑ k, f k : ℝ) : EReal) := by
  induction n with
  | zero => simp
  | succ n ih => rw [Fin.sum_univ_succ, Fin.sum_univ_succ, ih, EReal.coe_add]

/-- The LayerNorm of a row of real numbers, with real scale and shift, is real. -/
theorem ln_real {n : ℕ} {z : Fin n → EReal} {g b : EReal} (hz : ∀ k, IsReal (z k)) (hg : IsReal g) (hb : IsReal b) (j : Fin n) :
    IsReal (ln 0x44800000#32 z g b j) := by
  choose f hf using hz
  obtain rfl : z = fun k => ((f k : ℝ) : EReal) := funext hf
  obtain ⟨e, he, hw⟩ := eps_pos
  have hm : mean 0x44800000#32 (fun k => ((f k : ℝ) : EReal)) = (((∑ k, f k) * (1 / 1024) : ℝ) : EReal) := by
    unfold mean; rw [coe_sum, word1024, Ideal.div_coe (by norm_num), ← EReal.coe_mul]
  unfold ln
  rw [hm]
  generalize (∑ k, f k) * (1 / 1024) = μ
  have hv : mean 0x44800000#32 (fun k => (((f k : ℝ) : EReal) - (μ : EReal)) * (((f k : ℝ) : EReal) - (μ : EReal)))
      = (((∑ k, (f k - μ) * (f k - μ)) * (1 / 1024) : ℝ) : EReal) := by
    unfold mean
    simp only [← EReal.coe_sub, ← EReal.coe_mul]
    rw [coe_sum, word1024, Ideal.div_coe (by norm_num), ← EReal.coe_mul]
  rw [hv, hw, ← EReal.coe_add, Ideal.rsqrt_coe]
  have hp : 0 < (∑ k, (f k - μ) * (f k - μ)) * (1 / 1024) + e := by
    have : 0 ≤ ∑ k, (f k - μ) * (f k - μ) := Finset.sum_nonneg fun k _ => mul_self_nonneg _
    positivity
  rw [if_neg (not_lt.2 hp.le), if_neg hp.ne']
  exact ((IsReal.sub ⟨_, rfl⟩ ⟨_, rfl⟩).mul ⟨_, rfl⟩ |>.mul hg).add hb

end Cert.Layer

end
-- ==== Proof.ConvOut.lean ====
/- The first result of the convolution: every stream's rows convolved, normalised and activated. -/
module
public import proofs.«01_k».proof.Defs
public import proofs.«01_k».proof.Proof.ConvEnd
public import proofs.«01_k».proof.Proof.ConvTail
public import proofs.«01_k».proof.Proof.LnReal

set_option maxRecDepth 16384

@[expose] public section
noncomputable section

open Idealize.SL Idealize.ShloMosaic Idealize.ShloMosaic.TcCoe Cert.Layer

namespace Cert.ConvRefIdeal.Conv
open Cert.ConvRefIdeal Cert.ConvRefIdeal.Read Cert.ConvIdeal.Conv

/-- The reference's sum of 31 products, of any factors `f` that agree with its own. -/
theorem sum_eq (x0 : FVec Ideal S512x6144 .f32) (x1 : FVec Ideal S32x30x1024 .f32) (x2 : FVec Ideal S31x1024 .f32) (N : Fin 32) (r : Fin 16) (q : Fin 1024)
    (u w : ℕ → EReal) (hu : ∀ (s : Fin 46) (j : ℕ), s.val = j + r.val → val_main_v11 (F := Ideal) x0 x1 (ix3 N s q) = u j)
    (hw : ∀ j : Fin 31, x2 (ix2 j q) = w j.val) :
    val_main_v227 (F := Ideal) x0 x1 x2 (ix3 N r q) = run (fun j => u j * w j) 30 := by
  have hr := r.isLt
  pointwise [val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_v196, val_main_v197, val_main_v198, val_main_v199, val_main_v200, val_main_v201, val_main_v202, val_main_v203, val_main_v204, val_main_v205, val_main_v206, val_main_v207, val_main_v208, val_main_v209, val_main_v210, val_main_v211, val_main_v212, val_main_v213, val_main_v214, val_main_v215, val_main_v216, val_main_v217, val_main_v218, val_main_v219, val_main_v220, val_main_v221, val_main_v222, val_main_v223, val_main_v224, val_main_v225, val_main_v226, val_main_v227]
  iterate 30 refine step ?_ (congrArg₂ (· * ·) (hu _ _ (by simp <;> omega)) (hw _))
  exact congrArg₂ (· * ·) (hu _ _ (by simp <;> omega)) (hw _)

/-- The reference's first result: of the row `z` that is normalised. -/
theorem out_eq (x0 : FVec Ideal S512x6144 .f32) (x1 : FVec Ideal S32x30x1024 .f32) (x2 : FVec Ideal S31x1024 .f32) (x3 x4 x5 : FVec Ideal S1x1024 .f32)
    (i : Fin 512) (q : Fin 1024) (y : EReal)
    (hy : ln 0x44800000#32 (fun k => val_main_v227 (F := Ideal) x0 x1 x2 (ix3 ⟨i.val / 16, by omega⟩ ⟨i.val % 16, by omega⟩ k) + x3 (ix2 0 k)) (x4 (ix2 0 q)) (x5 (ix2 0 q)) q = y) :
    val_main_v257 (F := Ideal) x0 x1 x2 x3 x4 x5 (ix2 i q) = y * Ideal.logistic y := by
  subst hy
  pointwise [val_main_v228, val_main_v229, val_main_v230, val_main_v231, val_main_v232, val_main_v233, val_main_v234, val_main_v235, val_main_v236, val_main_v237, val_main_v238, val_main_v239, val_main_v240, val_main_v241, val_main_v242, val_main_v243, val_main_v244, val_main_v245, val_main_v246, val_main_v247, val_main_v248, val_main_v249, val_main_v250, val_main_v251, val_main_v252, val_main_v253, val_main_v254, val_main_v255, val_main_v256, val_main_v257, val_main_call0_v0, val_main_call0_v1, val_main_call0_v2, val_main_call0_v3, val_main_call0_v4, val_main_call0_v5, val_main_call0_cst, val_main_call0_cst_0, val_main_cst_1, val_main_cst_2, val_main_cst_3, val_main_cst_4, val_main_cst_5, ln, mean, Ideal.logistic]
end Cert.ConvRefIdeal.Conv

namespace Cert.Layer
open Cert.ConvIdeal.Conv

/-- A running sum of real numbers is real. -/
theorem IsReal.run {f : ℕ → EReal} : ∀ n, (∀ j ≤ n, IsReal (f j)) → IsReal (run f n)
  | 0, h => h 0 le_rfl
  | n + 1, h => (IsReal.run n fun j hj => h j (Nat.le_succ_of_le hj)).add (h (n + 1) le_rfl)

end Cert.Layer

namespace Cert.ConvIdeal.Conv
open Cert.ConvIdeal Cert.ConvIdeal.Gen

variable (m : (ℓ : Loc nD τ sig) → Buf (Elt Ideal) ℓ)

/-- What a grid point reads of the weights, of the bias, and of the scale and shift. -/
theorem weight_eq (c : Dev nD) (t : Fin cfg0.N) (j : Fin 31) (p : Fin 8) (q : Fin 1024) :
    iblk m c 3 t (ix3 j p q) = m ((c : Thread nD τ).loc main_arg2) (ix2 j q) := by
  blk_point [iblk, V, idx t]

theorem bias_eq (c : Dev nD) (t : Fin cfg0.N) (q : Fin 1024) : iblk m c 4 t (ix2 0 q) = m ((c : Thread nD τ).loc main_arg3) (ix2 0 q) := by
  blk_point [iblk, V, idx t]

theorem scale_eq (c : Dev nD) (t : Fin cfg0.N) (q : Fin 1024) : iblk m c 5 t (ix2 0 q) = m ((c : Thread nD τ).loc main_arg4) (ix2 0 q) := by
  blk_point [iblk, V, idx t]

theorem shift_eq (c : Dev nD) (t : Fin cfg0.N) (q : Fin 1024) : iblk m c 6 t (ix2 0 q) = m ((c : Thread nD τ).loc main_arg5) (ix2 0 q) := by
  blk_point [iblk, V, idx t]

/-- The six arguments hold real numbers. -/
structure Finite (c : Dev nD) : Prop where
  h0 : ∀ i, IsReal (m ((c : Thread nD τ).loc main_arg0) i)
  h1 : ∀ i, IsReal (m ((c : Thread nD τ).loc main_arg1) i)
  h2 : ∀ i, IsReal (m ((c : Thread nD τ).loc main_arg2) i)
  h3 : ∀ i, IsReal (m ((c : Thread nD τ).loc main_arg3) i)
  h4 : ∀ i, IsReal (m ((c : Thread nD τ).loc main_arg4) i)
  h5 : ∀ i, IsReal (m ((c : Thread nD τ).loc main_arg5) i)

variable {m}

/-- The rows that are convolved are then real, -/
theorem Finite.ext {c : Dev nD} (H : Finite m c) (N : Fin 32) (s : Fin 46) (q : Fin 1024) :
    IsReal (Cert.ConvRefIdeal.Read.val_main_v11 (F := Ideal) (m ((c : Thread nD τ).loc main_arg0)) (m ((c : Thread nD τ).loc main_arg1)) (ix3 N s q)) := by
  by_cases h : s.val < 30
  · rw [Cert.ConvRefIdeal.Conv.ext_hist _ _ _ _ _ h]; exact H.h1 _
  · rw [Cert.ConvRefIdeal.Conv.ext_new _ _ _ _ _ h]; exact (H.h0 _).mul (H.h0 _).logistic

/-- and so is the row that is normalised. -/
theorem Finite.row {c : Dev nD} (H : Finite m c) (t : Fin cfg0.N) (n : Fin 4) (r : Fin 16) (q : Fin 1024) :
    IsReal (row (iblk m c 0 t) (iblk m c 1 t) (iblk m c 2 t) (iblk m c 3 t) (iblk m c 4 t) n r q) := by
  have ht : (grid0.coords t 0).val < 8 := (grid0.coords t 0).isLt
  have hr := r.isLt
  refine (IsReal.run 30 fun j hj => ?_).add (bias_eq m c t q ▸ H.h3 _)
  refine IsReal.mul ?_ (weight_eq m c t _ _ q ▸ H.h2 _)
  have e := win_eq m c t n ⟨j + r.val, by omega⟩ q ⟨(grid0.coords t 0).val * 4 + n.val, by omega⟩ rfl
  rw [← Nat.add_assoc] at e
  rw [e]
  exact H.ext _ _ _

/-- A stream of a block, in the reference's array. -/
theorem out_at {c : Dev nD} (H : Finite m c) (t : Fin cfg0.N) (n : Fin 4) (r : Fin 16) (q : Fin 1024) (y : S64x1024.Idx) (h0 : (y 0).val = 16 * n.val + r.val)
    (h1 : (y 1).val = q.val) :
    out (iblk m c 0 t) (iblk m c 1 t) (iblk m c 2 t) (iblk m c 3 t) (iblk m c 4 t) (iblk m c 5 t) (iblk m c 6 t) n r q
      = Cert.ConvRefIdeal.Read.val_main_v257 (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
        (((View.whole main_v2_0).slice (win0_7.rect t)).emb y) := by
  have ht : (grid0.coords t 0).val < 8 := (grid0.coords t 0).isLt
  have hr := r.isLt
  have hn := n.isLt
  have hN : ((grid0.coords t 0).val * 64 + 16 * n.val + r.val) / 16 = (grid0.coords t 0).val * 4 + n.val := by omega
  have hR : ((grid0.coords t 0).val * 64 + 16 * n.val + r.val) % 16 = r.val := by omega
  refine (silu_eq (ln_real (fun k => H.row t n r k) (scale_eq m c t q ▸ H.h4 _) (shift_eq m c t q ▸ H.h5 _) q)).trans ?_
  refine (Cert.ConvRefIdeal.Conv.out_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
    ⟨(grid0.coords t 0).val * 64 + 16 * n.val + r.val, by omega⟩ q _
    (ln_congr (fun k => ?_) (scale_eq m c t q).symm (shift_eq m c t q).symm rfl)).symm.trans ?_
  · refine congrArg₂ (· + ·) (Cert.ConvRefIdeal.Conv.sum_eq _ _ _ _ _ _ (fun j => win (iblk m c 0 t) (iblk m c 1 t) (iblk m c 2 t) n (2 + j + r.val) k)
      (fun j => iblk m c 3 t (ix3 (Fin.ofNat 31 j) ⟨r.val % 8, by omega⟩ k)) (fun s j hs => ?_) fun j => ?_) (bias_eq m c t k).symm
    · rw [← win_eq m c t n s k _ (by dsimp only; omega), show 2 + j + r.val = 2 + s.val by dsimp only at hs; omega]
    · rw [weight_eq]; congr 2; exact Fin.ext (by simp [Fin.ofNat, Nat.mod_eq_of_lt j.isLt])
  · blk_point [idx t]

theorem row_of2 (x : S16x1024.Idx) : ∃ (r : Fin 16) (q : Fin 1024), x = ix2 r q :=
  ⟨x 0, x 1, funext fun a => match a with | 0 => rfl | 1 => rfl⟩

/-- The first result of the kernel is the reference's. -/
theorem out_eq {c : Dev nD} (H : Finite m c) : (dats m 0 c).arrAt 7 cfg0.N
    = Cert.ConvRefIdeal.Read.val_main_v257 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  unfold outsAt0 out0_A_7
  dsimp only
  rw [View.read_writes_junk_eq_canon]
  unfold kernelRun0_A
  dsimp only
  canon_tiles x h
  all_goals obtain ⟨r, q, rfl⟩ := row_of2 x
  · exact (end3 (r := r) (q := q) ..).trans (out_at H t 3 r q y h0 h1)
  · exact (end2 (r := r) (q := q) ..).trans (out_at H t 2 r q y h0 h1)
  · exact (end1 (r := r) (q := q) ..).trans (out_at H t 1 r q y h0 h1)
  · exact (end0 (r := r) (q := q) ..).trans (out_at H t 0 r q y (h0.trans (Nat.zero_add _).symm) h1)

end Cert.ConvIdeal.Conv
end
end
-- ==== Proof.ConvPRun.lean ====
/- The run of the prompt's convolution, of which the new history and the rounded weights are followed. The rows that it convolves
   are left unnamed. The new history is read at the last block of a batch from the rows that the same block has stored. -/
module

public import proofs.«01_k».proof.Proof.Gen.ConvPIdeal.Frame
public import proofs.«01_k».proof.Proof.Gen.ConvPIdeal.Skeleton
public import Idealize.ShloMosaic.Lib.Pipeline.ValueKit
public import Idealize.ShloMosaic.Lib.Pipeline.ReadBack
public import Idealize.ShloMosaic.Lib.Claim

@[expose] public section

set_option maxRecDepth 16384

noncomputable section

namespace Cert.ConvPIdeal.Body

open Cert.ConvPIdeal Cert.ConvPIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The block is the last of its batch. -/
abbrev last (i : grid0.Coords) : Prop := k0_cond2 i = 1#1

/-- The last 30 of the block's gated rows. -/
def tail30 (x0 x1 : Vec F S256x1024 .f32) : Vec F S1x30x1024 .f32 :=
  fun y => k0_pay8 x0 x1 (ix2 ⟨226 + (y 1).val, by have h : (y 1).val < 30 := (y 1).isLt; omega⟩ ⟨(y 2).val, (y 2).isLt⟩)

/-- Where the scratch holds the last 30 rows of its first copy. -/
def tailAt (y : S1x30x1024.Idx) : S1x8x288x1024.Idx :=
  ix4 0 0 ⟨258 + (y 1).val, by have h : (y 1).val < 30 := (y 1).isLt; omega⟩ ⟨(y 2).val, (y 2).isLt⟩

/-- What the body leaves in the history's buffer: at the last block of a batch the last gated rows, else what was there. -/
def tailOf (i : grid0.Coords) (z : Vec F S1x30x1024 .f32) (x0 x1 : Vec F S256x1024 .f32) : Vec F S1x30x1024 .f32 :=
  if last i then tail30 x0 x1 else z

/-- The scratch's first copy ends with the block's last 30 gated rows. -/
def Holds (a : Memref sig .tc .vmem S1x8x288x1024 .f32) (x0 x1 : Vec F S256x1024 .f32) (g : a.view.ty.Contents (Elt F)) : Prop :=
  ∀ y : S1x30x1024.Idx, a.view.read (Elt F) g (tailAt y) = tail30 x0 x1 y

/-- A buffer at written contents, of which only a fact is kept. -/
theorem keep (c : Dev nD) {s : Shape} {e : EltTy} (a : Memref sig .tc .vmem s e) (L : List (View.Piece (Elt F) s e)) (P : a.view.ty.Contents (Elt F) → Prop)
    (h : ∀ g, P (a.view.writes (Elt F) g L)) (g : a.view.ty.Contents (Elt F)) :
    (iprop(a.view.loc (c : Thread nD τ) ↦[a.view.set]{fullShare} a.view.writes (Elt F) g L) : sProp 𝕄)
      ⊢ iprop(∃ g', ⌜P g'⌝ ∗ (a.view.loc (c : Thread nD τ) ↦[a.view.set]{fullShare} g')) := by
  iintro H
  iexists _; isplitr
  · ipureintro; exact h g
  iexact H

/-- What the body reads for the new history is the scratch there. -/
theorem at_tail (a : Memref sig .tc .vmem S1x8x288x1024 .f32) (g : a.view.ty.Contents (Elt F)) {i₁ h₀ hs h₁}
    (hR : (Rect.unit (s := S8x288x1024) ![0, 258, 0] S1x30x1024.size inb_S8x288x1024_S1x30x1024_0_258_0).toLoadRect.shape.numel
      = ((Rect.unit (s := S1x8x288x1024) ![0, 0, 0, 0] S1x8x288x1024.size i₁).withinL
          ((Rect.unit (s := S8x288x1024) ![0, 258, 0] S1x30x1024.size inb_S8x288x1024_S1x30x1024_0_258_0).toLoadRect.consLift ![1, 8, 288, 1024] h₀ hs) h₁).shape.numel)
    (y : S1x30x1024.Idx) :
    LoadRect.valAlong hR (a.view.readAt (Elt F) ((Rect.unit (s := S1x8x288x1024) ![0, 0, 0, 0] S1x8x288x1024.size i₁).withinL
          ((Rect.unit (s := S8x288x1024) ![0, 258, 0] S1x30x1024.size inb_S8x288x1024_S1x30x1024_0_258_0).toLoadRect.consLift ![1, 8, 288, 1024] h₀ hs) h₁) g) y
      = a.view.read (Elt F) g (tailAt y) := by
  show a.view.read (Elt F) g _ = _
  refine congrArg (a.view.read (Elt F) g) ?_
  have hx := Shape.reshapeEquiv_cons_one (d := S1x30x1024.size) hR y
  funext b
  apply Fin.ext
  have y0 : (y 0).val < 1 := (y 0).isLt
  obtain ⟨q, hq⟩ : ∃ q, q = Shape.reshapeEquiv hR y := ⟨_, rfl⟩
  rw [← hq]
  have hx' := hq.trans hx
  subst hx'
  match b with
  | 0 => rfl
  | 1 => show 0 + 0 + 1 * (y 0).val = 0; omega
  | 2 => show 0 + 258 + 1 * (y 1).val = 258 + (y 1).val; omega
  | 3 => show 0 + 0 + 1 * (y 2).val = (y 2).val; omega

/-- Storing the whole of a block covers it: the first rounded weights, -/
theorem cov13 (p : Vec F S64x2048 .bf16) (y : S64x2048.Idx) :
    ∃ pc ∈ ([⟨Rect.unit (s := S64x2048) ![0, 0] S64x2048.size inb_S64x2048_S64x2048_0_0, p⟩] : List (View.Piece (Elt F) S64x2048 .bf16)), y ∈ pc.1.set :=
  View.cover_of_tiled _ S64x2048.size (by rfl) y
/-- the second and the third, -/
theorem cov14 (p : Vec F S64x5632 .bf16) (y : S64x5632.Idx) :
    ∃ pc ∈ ([⟨Rect.unit (s := S64x5632) ![0, 0] S64x5632.size inb_S64x5632_S64x5632_0_0, p⟩] : List (View.Piece (Elt F) S64x5632 .bf16)), y ∈ pc.1.set :=
  View.cover_of_tiled _ S64x5632.size (by rfl) y
/-- the fourth, -/
theorem cov16 (p : Vec F S176x2048 .bf16) (y : S176x2048.Idx) :
    ∃ pc ∈ ([⟨Rect.unit (s := S176x2048) ![0, 0] S176x2048.size inb_S176x2048_S176x2048_0_0, p⟩] : List (View.Piece (Elt F) S176x2048 .bf16)), y ∈ pc.1.set :=
  View.cover_of_tiled _ S176x2048.size (by rfl) y
/-- and the new history. -/
theorem cov12 (p : Vec F S1x30x1024 .f32) (y : S1x30x1024.Idx) :
    ∃ pc ∈ ([⟨Rect.unit (s := S1x30x1024) ![0, 0, 0] S1x30x1024.size inb_S1x30x1024_S1x30x1024_0_0_0, p⟩] : List (View.Piece (Elt F) S1x30x1024 .f32)), y ∈ pc.1.set :=
  View.cover_of_tiled _ S1x30x1024.size (by rfl) y

set_option maxHeartbeats 0 in set_option sl_exec.squeezeSlice true in
/-- The body runs, and leaves the new history and the rounded weights in their buffers. -/
theorem run (c : Dev nD) (E : Set ℕ) (i : grid0.Coords)
  (arg2 : Memref sig .tc .vmem S256x1024 .f32) (harg2 : arg2.IsWhole)
  (arg3 : Memref sig .tc .vmem S256x1024 .f32) (harg3 : arg3.IsWhole)
  (arg4 : Memref sig .tc .vmem S1x30x1024 .f32) (harg4 : arg4.IsWhole)
  (arg5 : Memref sig .tc .vmem S31x8x1024 .f32) (harg5 : arg5.IsWhole)
  (arg6 : Memref sig .tc .vmem S1x1024 .f32) (harg6 : arg6.IsWhole)
  (arg7 : Memref sig .tc .vmem S1x1024 .f32) (harg7 : arg7.IsWhole)
  (arg8 : Memref sig .tc .vmem S1x1024 .f32) (harg8 : arg8.IsWhole)
  (arg9 : Memref sig .tc .vmem S64x2048 .f32) (harg9 : arg9.IsWhole)
  (arg10 : Memref sig .tc .vmem S64x5632 .f32) (harg10 : arg10.IsWhole)
  (arg11 : Memref sig .tc .vmem S64x5632 .f32) (harg11 : arg11.IsWhole)
  (arg12 : Memref sig .tc .vmem S176x2048 .f32) (harg12 : arg12.IsWhole)
  (arg13 : Memref sig .tc .vmem S256x1024 .bf16) (harg13 : arg13.IsWhole)
  (arg14 : Memref sig .tc .vmem S1x30x1024 .f32) (harg14 : arg14.IsWhole)
  (arg15 : Memref sig .tc .vmem S64x2048 .bf16) (harg15 : arg15.IsWhole)
  (arg16 : Memref sig .tc .vmem S64x5632 .bf16) (harg16 : arg16.IsWhole)
  (arg17 : Memref sig .tc .vmem S64x5632 .bf16) (harg17 : arg17.IsWhole)
  (arg18 : Memref sig .tc .vmem S176x2048 .bf16) (harg18 : arg18.IsWhole)
  (arg19 : Memref sig .tc .vmem S1x8x288x1024 .f32) (harg19 : arg19.IsWhole)
  (x0 : Vec F S256x1024 .f32) (x1 : Vec F S256x1024 .f32) (x2 : Vec F S1x30x1024 .f32) (x3 : Vec F S31x8x1024 .f32) (x4 : Vec F S1x1024 .f32) (x5 : Vec F S1x1024 .f32) (x6 : Vec F S1x1024 .f32) (x7 : Vec F S64x2048 .f32) (x8 : Vec F S64x5632 .f32) (x9 : Vec F S64x5632 .f32) (x10 : Vec F S176x2048 .f32) (z : Vec F S1x30x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare z ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ (∃ d, owns (c : Thread nD τ) arg13 fullShare d) ∗ owns (c : Thread nD τ) arg14 fullShare (tailOf i z x0 x1) ∗ owns (c : Thread nD τ) arg15 fullShare (k0_pay2 x7) ∗ owns (c : Thread nD τ) arg16 fullShare (k0_pay3 x8) ∗ owns (c : Thread nD τ) arg17 fullShare (k0_pay4 x9) ∗ owns (c : Thread nD τ) arg18 fullShare (k0_pay5 x10) ∗ (∃ d, owns (c : Thread nD τ) arg19 fullShare d)) -∗ K ⟨⟩))
      ⊢ wp frame (wpE (defs₀ (F := F)) Variants.none c none) E (cc0_conv_branch i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_conv_branch_eq_skeleton]; unfold cc0_conv_branch_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, %hf11, H11⟩, ⟨%f12, %hf12, H12⟩, ⟨%d13, %f13, %hf13, H13⟩, ⟨%d14, %f14, %hf14, H14⟩, ⟨%d15, %f15, %hf15, H15⟩, ⟨%d16, %f16, %hf16, H16⟩, ⟨%ds, %fs, %hfs, HS0⟩, Hk⟩
  subst hf0 hf1 hf2 hf3 hf4 hf5 hf6 hf7 hf8 hf9 hf10 hf12
  set_option sl_exec.stopBefore "k0_part2" in sl_exec_parts
  set_option sl_exec.stopBefore "k0_part17" in sl_exec_parts
  have pay_at : ∀ (c : Dev nD) (arg2 arg3 : Memref sig .tc .vmem S256x1024 .f32) (f0 : arg2.view.ty.Contents (Elt F)) (f1 : arg3.view.ty.Contents (Elt F)) (k : Fin 256) (q : Fin 1024),
      run.sl.v29 c arg2 arg3 f0 f1 (ix3 0 k q) = k0_pay8 (arg2.view.read (Elt F) f0) (arg3.view.read (Elt F) f1) (ix2 k q) := by
    intro c arg2 arg3 f0 f1 k q
    delta run.sl.v29 run.sl.r
    pointwise [k0_pay9, k0_pay8, View.readAt_eq_ld]
  have hfact : ∀ g0, Holds arg19 (arg2.view.read (Elt F) f0) (arg3.view.read (Elt F) f1) (arg19.view.writes (Elt F) g0 (run.sl.HS0_50 c i arg2 arg3 arg4 arg19 f0 f1 f2 fs)) := by
    intro g0 y
    have hy : (y 1).val < 30 := (y 1).isLt
    repeat
      refine (View.read_writes_cons_miss _ _ _ _ _ ?_).trans ?_
      · refine Rect.not_mem_set_of_axis _ _ 1 _ _ rfl rfl rfl ?_
        refine Or.inl ?_
        exact Nat.succ_pos _
    refine (View.read_writes_cons_hit_of_coords _ _ _ _ _ (ix4 0 0 ⟨226 + (y 1).val, by omega⟩ ⟨(y 2).val, (y 2).isLt⟩ : (⟨4, ![1, 1, 256, 1024]⟩ : Shape).Idx) _ ?_).trans ?_
    · intro a
      match a with
      | 0 => rfl
      | 1 => rfl
      | 2 => show 258 + (y 1).val = 32 + 1 * (226 + (y 1).val); omega
      | 3 => show (y 2).val = 0 + 1 * (y 2).val; omega
    refine (Rect.payAlong_consLift (Rect.unit (s := S8x288x1024) ![0, 32, 0] ![1, 256, 1024] inb_S8x288x1024_S1x256x1024_0_32_0) ![1, 8, 288, 1024] _ _ _ _ _
      (ix3 0 ⟨226 + (y 1).val, by omega⟩ ⟨(y 2).val, (y 2).isLt⟩) (fun a => ?_)).trans ?_
    · match a with
      | 0 => rfl
      | 1 => rfl
      | 2 => rfl
    unfold tail30
    exact pay_at c arg2 arg3 f0 f1 ⟨226 + (y 1).val, by omega⟩ ⟨(y 2).val, (y 2).isLt⟩
  ihave HS1 := (keep c arg19 _ (Holds arg19 (arg2.view.read (Elt F) f0) (arg3.view.read (Elt F) f1)) hfact _) $$ HS0
  icases HS1 with ⟨%g, %hg, HS0⟩
  set_option sl_exec.stopBefore "k0_part109" in sl_exec_parts
  dsimp only
  by_cases hl : last i
  · sl_exec_parts (disch := first | sl_exact hl)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists _; iexists _; isplitr
      swap; · iexact H11
      ipureintro; rfl
    isplitl [H12]
    · iexists _; isplitr
      swap; · iexact H12
      ipureintro
      refine (View.read_writes_eq_canon _ _ _ (cov12 _)).trans ?_
      refine (View.canon_unit_zero (by decide) _ _).trans ?_
      refine Eq.trans ?_ (if_pos hl).symm
      funext y
      rw [← hg y]
      pointwise [k0_pay229]
      delta run.sl.v3399
      exact at_tail _ _ _ y
    isplitl [H13]
    · iexists _; isplitr
      swap; · iexact H13
      ipureintro
      refine (View.read_writes_eq_canon _ _ _ (cov13 _)).trans ?_
      frame_out
    isplitl [H14]
    · iexists _; isplitr
      swap; · iexact H14
      ipureintro
      refine (View.read_writes_eq_canon _ _ _ (cov14 _)).trans ?_
      frame_out
    isplitl [H15]
    · iexists _; isplitr
      swap; · iexact H15
      ipureintro
      refine (View.read_writes_eq_canon _ _ _ (cov14 _)).trans ?_
      frame_out
    isplitl [H16]
    · iexists _; isplitr
      swap; · iexact H16
      ipureintro
      refine (View.read_writes_eq_canon _ _ _ (cov16 _)).trans ?_
      frame_out
    iexists _; iexists _; isplitr
    swap; · iexact HS0
    ipureintro; rfl
  · sl_exec_parts (disch := first | sl_exact hl)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists f8; isplitr; · ipureintro; rfl
      iexact H8
    isplitl [H9]
    · iexists f9; isplitr; · ipureintro; rfl
      iexact H9
    isplitl [H10]
    · iexists f10; isplitr; · ipureintro; rfl
      iexact H10
    isplitl [H11]
    · iexists _; iexists _; isplitr
      swap; · iexact H11
      ipureintro; rfl
    isplitl [H12]
    · iexists f12; isplitr; · ipureintro; exact (if_neg hl).symm
      iexact H12
    isplitl [H13]
    · iexists _; isplitr
      swap; · iexact H13
      ipureintro
      refine (View.read_writes_eq_canon _ _ _ (cov13 _)).trans ?_
      frame_out
    isplitl [H14]
    · iexists _; isplitr
      swap; · iexact H14
      ipureintro
      refine (View.read_writes_eq_canon _ _ _ (cov14 _)).trans ?_
      frame_out
    isplitl [H15]
    · iexists _; isplitr
      swap; · iexact H15
      ipureintro
      refine (View.read_writes_eq_canon _ _ _ (cov14 _)).trans ?_
      frame_out
    isplitl [H16]
    · iexists _; isplitr
      swap; · iexact H16
      ipureintro
      refine (View.read_writes_eq_canon _ _ _ (cov16 _)).trans ?_
      frame_out
    iexists _; iexists _; isplitr
    swap; · iexact HS0
    ipureintro; rfl

end Cert.ConvPIdeal.Body

end
-- ==== Proof.ConvPBody.lean ====
/- The prompt's convolution over its grid, and its frame. The history's buffer is stored at the last block of a batch and kept
   until then; each rounded weight's block is stored at its own point; the convolved rows are left unnamed. -/
module

public import proofs.«01_k».proof.Proof.ConvPRun
public import proofs.«01_k».proof.Proof.Gen.ConvPIdeal.Launch
public import proofs.«01_k».proof.Proof.Gen.ConvPIdeal.Points

@[expose] public section

set_option maxRecDepth 16384

noncomputable section

namespace Cert.ConvPIdeal.Body

open Cert.ConvPIdeal Cert.ConvPIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The convolved rows' window is the one of which nothing is said. -/
def forgets0 : Fin 17 → Bool := fun w => w.val == 11

/-- The last block of a batch is the eighth. -/
theorem last_iff : ∀ t : Fin cfg0.N, last (grid0.coords t) ↔ t.val % 8 = 7 :=
  (by decide +kernel : ∀ t : Fin grid0.N, k0_cond2 (grid0.coords t) = 1#1 ↔ t.val % 8 = 7)

/-! ## The pipeline's proof data -/

/-- The arrays as launched; after the body at point `t` each input's buffer at its block, the history's at the last gated rows
    and each rounded weight's at its block rounded. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => Pipeline.Dat.unnamed (cfg := cfg0) 11 t
    | ⟨12, _⟩ => tail30 (iblk m c 0 t) (iblk m c 1 t)
    | ⟨13, _⟩ => k0_pay2 (iblk m c 7 t)
    | ⟨14, _⟩ => k0_pay3 (iblk m c 8 t)
    | ⟨15, _⟩ => k0_pay4 (iblk m c 9 t)
    | ⟨16, _⟩ => k0_pay5 (iblk m c 10 t)
    | ⟨_ + 17, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_12 (c : Dev nD) (t : Fin cfg0.N) : (dats m 0 c).after 12 t = tail30 (iblk m c 0 t) (iblk m c 1 t) := by dsimp only [dats]
theorem after0_13 (c : Dev nD) (t : Fin cfg0.N) : (dats m 0 c).after 13 t = k0_pay2 (iblk m c 7 t) := by dsimp only [dats]
theorem after0_14 (c : Dev nD) (t : Fin cfg0.N) : (dats m 0 c).after 14 t = k0_pay3 (iblk m c 8 t) := by dsimp only [dats]
theorem after0_15 (c : Dev nD) (t : Fin cfg0.N) : (dats m 0 c).after 15 t = k0_pay4 (iblk m c 9 t) := by dsimp only [dats]
theorem after0_16 (c : Dev nD) (t : Fin cfg0.N) : (dats m 0 c).after 16 t = k0_pay5 (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-- The history's buffer is written back at the last block of a batch, -/
theorem leaves_last (c : Dev nD) (t : Fin cfg0.N) (h : last (grid0.coords t)) :
    (dats m 0 c).leavesExact 12 t = owns (c : Thread nD τ) (st0_12 t) fullShare ((dats m 0 c).after 12 t) := by
  have hi : cfg0.idle 12 (cfg0.grid.coords t) = false := by
    show (!(k0_cond2 (grid0.coords t) == 1#1)) = false
    rw [show k0_cond2 (grid0.coords t) = 1#1 from h]; rfl
  unfold Dat.leavesExact
  rw [hi]

/-- and at another block nothing is done to it. -/
theorem leaves_other (c : Dev nD) (t : Fin cfg0.N) (h : ¬last (grid0.coords t)) :
    (dats m 0 c).leavesExact 12 t = iprop(∃ d, owns (c : Thread nD τ) (st0_12 t) fullShare ((dats m 0 c).before 12 t d)) := by
  have hi : cfg0.idle 12 (cfg0.grid.coords t) = true := by
    show (!(k0_cond2 (grid0.coords t) == 1#1)) = true
    have h' : ¬k0_cond2 (grid0.coords t) = 1#1 := h
    simp [h']
  exact (dats m 0 c).leavesExact_idle 12 t hi (Bool.eq_false_iff.mpr fun hf => h ((last_iff t).mpr ((flush0_12 t).mp hf)))

/-- What the body is handed beside the windows: the scratch at some contents and the generator's register. -/
theorem PhiA0_eq (c : Dev nD) :
    (Pipeline.ΦA spec0 c : sProp 𝕄)
      = iprop((∃ d, owns (c : Thread nD τ) (Memref.whole cc0_scratch0) fullShare d) ∗ (∃ r, prngReg c r)) := by
  unfold Pipeline.ΦA; rw [scopedRest0_eq]; simp only [owns_whole]; try rfl

/-! ## The body obligation -/

/-- What the body starts from at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare d)
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (∃ d, owns (c : Thread nD τ) (st0_11 t) fullShare d)
    ∗ (dats m 0 c).leavesExact 12 t
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 1600000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq,
    after0_0, after0_1, after0_2, after0_3, after0_4, after0_5, after0_6, after0_7, after0_8, after0_9, after0_10, after0_13, after0_14, after0_15, after0_16]
  iintro ⟨⟨HS, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (run c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) ((dats m 0 c).before 12 t d12) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexact H12
  isplitl [H13]; · iexists _; iexact H13
  isplitl [H14]; · iexists _; iexact H14
  isplitl [H15]; · iexists _; iexact H15
  isplitl [H16]; · iexists _; iexact H16
  isplitl [HS]; · iexact HS
  iintro ⟨H0, H1, H2, H3, H4, H5, H6, H7, H8, H9, H10, H11, H12, H13, H14, H15, H16, HS⟩
  isplitl [HS Hr]
  · isplitl [HS]; · iexact HS
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · by_cases h : last (grid0.coords t)
    · rw [leaves_last m c t h, after0_12, show tailOf (grid0.coords t) ((dats m 0 c).before 12 t d12) (iblk m c 0 t) (iblk m c 1 t) = tail30 (iblk m c 0 t) (iblk m c 1 t) from if_pos h]
      iexact H12
    · rw [leaves_other m c t h, show tailOf (grid0.coords t) ((dats m 0 c).before 12 t d12) (iblk m c 0 t) (iblk m c 1 t) = (dats m 0 c).before 12 t d12 from if_neg h]
      iexists d12; iexact H12
  isplitl [H13]; · iexact H13
  isplitl [H14]; · iexact H14
  isplitl [H15]; · iexact H15
  iexact H16

/-- The body table's entry at a point is the body. -/
theorem defs₀_row (t : Fin cfg0.N) : defs₀ (F := F) .tc cfg0.body (cfg0.bodyArgs t (cfg0.slots t)) = bodyAt0 t := by
  unfold defs₀; rw [Defs.onTc_tc]

/-- The body does at every point what the proof data says. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the theorem's implicit arguments are found by unifying its conclusion with this one, which takes unfolding definitions in types
set_option backward.isDefEq.respectTransparency.types false in
set_option maxHeartbeats 1600000 in
/-- Every run ends with the arrays at what the proof data gives, but for the one of which nothing is said, and every counter at zero. -/
theorem run_main_quiescent : θ_run defs (onTc (τ := τ) (main (F := F))) (s₀ m ρ)
    (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- What every run leaves: the history and the rounded weights as the proof data gives them, and the arguments unchanged. -/
theorem results : θ_run defs (onTc (τ := τ) (main (F := F))) ⟨m, fun _ => 0, ρ⟩ (fun r => ∀ c : Dev nD,
      r.2.mem ((c.tc : Thread nD τ).loc main_v2_1) = (dats m 0 c).arrAt 12 cfg0.N
      ∧ r.2.mem ((c.tc : Thread nD τ).loc main_v2_2) = (dats m 0 c).arrAt 13 cfg0.N
      ∧ r.2.mem ((c.tc : Thread nD τ).loc main_v2_3) = (dats m 0 c).arrAt 14 cfg0.N
      ∧ r.2.mem ((c.tc : Thread nD τ).loc main_v2_4) = (dats m 0 c).arrAt 15 cfg0.N
      ∧ r.2.mem ((c.tc : Thread nD τ).loc main_v2_5) = (dats m 0 c).arrAt 16 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r hr c => by
    have h := hr.1
    exact ⟨((dats m 0 c).toRForget_arrAt_iff (w := 12) (fgt := forgets0) rfl _ _).mp ((h c).1 12),
      ((dats m 0 c).toRForget_arrAt_iff (w := 13) (fgt := forgets0) rfl _ _).mp ((h c).1 13),
      ((dats m 0 c).toRForget_arrAt_iff (w := 14) (fgt := forgets0) rfl _ _).mp ((h c).1 14),
      ((dats m 0 c).toRForget_arrAt_iff (w := 15) (fgt := forgets0) rfl _ _).mp ((h c).1 15),
      ((dats m 0 c).toRForget_arrAt_iff (w := 16) (fgt := forgets0) rfl _ _).mp ((h c).1 16),
      (Pipeline.RDat.FramePost.arr_in h c 1 rfl).trans (V_main_arg0 m c),
      (Pipeline.RDat.FramePost.arr_in h c 2 rfl).trans (V_main_arg1 m c),
      ((h c).2 main_arg2 (Pipeline.mem_restRefs_of main_arg2 (by decide) (by decide))).trans (V_main_arg2 m c),
      (Pipeline.RDat.FramePost.arr_in h c 4 rfl).trans (V_main_arg3 m c),
      (Pipeline.RDat.FramePost.arr_in h c 5 rfl).trans (V_main_arg4 m c),
      (Pipeline.RDat.FramePost.arr_in h c 6 rfl).trans (V_main_arg5 m c),
      (Pipeline.RDat.FramePost.arr_in h c 7 rfl).trans (V_main_arg6 m c),
      (Pipeline.RDat.FramePost.arr_in h c 8 rfl).trans (V_main_arg7 m c),
      (Pipeline.RDat.FramePost.arr_in h c 9 rfl).trans (V_main_arg8 m c),
      (Pipeline.RDat.FramePost.arr_in h c 10 rfl).trans (V_main_arg9 m c)⟩) (run_main_quiescent m ρ)

/-- Every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and ((θ_run defs _ _).mono (fun _ h c => (h c).2.2.2.2.2) (results m ρ)) ((θ_run defs _ _).mono (fun _ h => h.2) (run_main_quiescent m ρ))

end Cert.ConvPIdeal.Body

end
-- ==== Proof.ConvP.lean ====
/- What the prompt's convolution leaves: the new history of every batch, its last thirty gated rows, and the four weights of the
   later calls rounded to bf16, block by block. -/
module

public import proofs.«01_k».proof.Defs
public import proofs.«01_k».proof.Proof.ConvPBody
public import proofs.«01_k».proof.Proof.Real
public import proofs.«01_k».proof.Proof.Gen.ConvRefPIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvRefPIdeal.Val
open Cert.ConvRefPIdeal Cert.ConvRefPIdeal.Read

/-- A row after the history is a gated row of the prompt. -/
theorem ext_new (x0 : FVec Ideal S8192x6144 .f32) (x1 : FVec Ideal S4x30x1024 .f32) (n : Fin 4) (s : Fin 2078) (q : Fin 1024) (h : ¬s.val < 30) :
    val_main_v11 (F := Ideal) x0 x1 (ix3 n s q)
      = x0 (ix2 ⟨n.val * 2048 + (s.val - 30), by omega⟩ ⟨q.val, by omega⟩) * Ideal.logistic (x0 (ix2 ⟨n.val * 2048 + (s.val - 30), by omega⟩ ⟨1024 + q.val, by omega⟩)) := by
  pointwise [val_main_v11, val_main_v10, val_main_v9, val_main_v8, val_main_v7, val_main_v6, val_main_v5, val_main_v4, val_main_v3, val_main_v2, val_main_v1, val_main_v0, val_main_cst, val_main_cst_0, Ideal.logistic]
  rw [dif_neg h]

/-- The new history's rows are the last thirty of them. -/
theorem tail_row (x0 : FVec Ideal S8192x6144 .f32) (x1 : FVec Ideal S4x30x1024 .f32) (n : Fin 4) (k : Fin 30) (q : Fin 1024) :
    val_main_v12 (F := Ideal) x0 x1 (ix3 n k q)
      = x0 (ix2 ⟨n.val * 2048 + (2018 + k.val), by omega⟩ ⟨q.val, by omega⟩) * Ideal.logistic (x0 (ix2 ⟨n.val * 2048 + (2018 + k.val), by omega⟩ ⟨1024 + q.val, by omega⟩)) := by
  have e : val_main_v12 (F := Ideal) x0 x1 (ix3 n k q) = val_main_v11 (F := Ideal) x0 x1 (ix3 n ⟨2048 + k.val, by omega⟩ q) := by
    pointwise [val_main_v12]
  rw [e, ext_new _ _ _ _ _ (by show ¬2048 + k.val < 30; omega)]
  have a : 2048 + k.val - 30 = 2018 + k.val := by omega
  simp only [a]

end Cert.ConvRefPIdeal.Val

namespace Cert.ConvPIdeal.Val

open Cert.ConvPIdeal Cert.ConvPIdeal.Gen Cert.ConvPIdeal.Body

variable (m : (ℓ : Loc nD τ sig) → Buf (Elt Ideal) ℓ)

/-- Where the windows' blocks lie. -/
theorem idx : ∀ t : Fin cfg0.N, win0_0.index t = ![t.val, 0] ∧ win0_1.index t = ![t.val, 1] ∧ win0_7.index t = ![t.val, 0] ∧ win0_8.index t = ![t.val, 0]
    ∧ win0_9.index t = ![t.val, 0] ∧ win0_10.index t = ![t.val, 0] ∧ win0_12.index t = ![t.val / 8, 0, 0] ∧ win0_13.index t = ![t.val, 0]
    ∧ win0_14.index t = ![t.val, 0] ∧ win0_15.index t = ![t.val, 0] ∧ win0_16.index t = ![t.val, 0] :=
  (by decide +kernel : ∀ t : Fin grid0.N, _)

/-- A gated row. -/
theorem gated (x0 x1 : FVec Ideal S256x1024 .f32) (r : Fin 256) (q : Fin 1024) :
    k0_pay8 (F := Ideal) x0 x1 (ix2 r q) = x0 (ix2 r q) * Ideal.logistic (x1 (ix2 r q)) := by
  rw [← Layer.logistic_eq]
  pointwise [k0_pay8]

/-- The new history is the reference's. -/
theorem tail (c : Dev nD) : (dats m 0 c).arrAt 12 cfg0.N
    = Cert.ConvRefPIdeal.Read.val_main_v12 (F := Ideal) (m ((c : Thread nD τ).loc main_arg0)) (m ((c : Thread nD τ).loc main_arg1)) := by
  refine (dats m 0 c).arrAt_eq_of_covers 12 _ (by decide +kernel) fun t hf y => ?_
  have hr : t.val % 8 = 7 := (flush0_12 t).mp hf
  have ht : t.val < 32 := t.isLt
  have y0 : (y 0).val < 1 := (y 0).isLt
  have y1 : (y 1).val < 30 := (y 1).isLt
  have y2 : (y 2).val < 1024 := (y 2).isLt
  blk_simp
  rw [after0_12]
  unfold tail30
  refine (gated _ _ _ _).trans ?_
  refine Eq.trans ?_ ((Cert.ConvRefPIdeal.Val.tail_row (m ((c : Thread nD τ).loc main_arg0)) (m ((c : Thread nD τ).loc main_arg1)) ⟨t.val / 8, by omega⟩ ⟨(y 1).val, y1⟩ ⟨(y 2).val, y2⟩).symm.trans ?_)
  · refine congrArg₂ (· * ·) ?_ (congrArg Ideal.logistic ?_)
    · blk_point [iblk, V, idx t]
    · blk_point [iblk, V, idx t]
  · blk_point [idx t]

/-- The first weight is rounded, -/
theorem cast0 (c : Dev nD) : (dats m 0 c).arrAt 13 cfg0.N
    = Cert.ConvRefPIdeal.Read.val_main_v13 (F := Ideal) (m ((c : Thread nD τ).loc main_arg6)) := by
  refine (dats m 0 c).arrAt_eq_of_covers 13 _ (by decide +kernel) fun t hf y => ?_
  blk_simp
  rw [after0_13]
  pointwise [k0_pay2, Cert.ConvRefPIdeal.Read.val_main_v13]
  blk_point [iblk, V, idx t]

/-- the second, -/
theorem cast1 (c : Dev nD) : (dats m 0 c).arrAt 14 cfg0.N
    = Cert.ConvRefPIdeal.Read.val_main_v14 (F := Ideal) (m ((c : Thread nD τ).loc main_arg7)) := by
  refine (dats m 0 c).arrAt_eq_of_covers 14 _ (by decide +kernel) fun t hf y => ?_
  blk_simp
  rw [after0_14]
  pointwise [k0_pay3, Cert.ConvRefPIdeal.Read.val_main_v14]
  blk_point [iblk, V, idx t]

/-- the third -/
theorem cast2 (c : Dev nD) : (dats m 0 c).arrAt 15 cfg0.N
    = Cert.ConvRefPIdeal.Read.val_main_v15 (F := Ideal) (m ((c : Thread nD τ).loc main_arg8)) := by
  refine (dats m 0 c).arrAt_eq_of_covers 15 _ (by decide +kernel) fun t hf y => ?_
  blk_simp
  rw [after0_15]
  pointwise [k0_pay4, Cert.ConvRefPIdeal.Read.val_main_v15]
  blk_point [iblk, V, idx t]

/-- and the fourth. -/
theorem cast3 (c : Dev nD) : (dats m 0 c).arrAt 16 cfg0.N
    = Cert.ConvRefPIdeal.Read.val_main_v16 (F := Ideal) (m ((c : Thread nD τ).loc main_arg9)) := by
  refine (dats m 0 c).arrAt_eq_of_covers 16 _ (by decide +kernel) fun t hf y => ?_
  blk_simp
  rw [after0_16]
  pointwise [k0_pay5, Cert.ConvRefPIdeal.Read.val_main_v16]
  blk_point [iblk, V, idx t]

end Cert.ConvPIdeal.Val

end
-- ==== Proof.ConvPBits.lean ====
/- The frame of the convolution of the prompt at the bit patterns. Its text is its idealization's, whose frame holds at any floats. -/
module

public import proofs.«01_k».proof.Defs
public import proofs.«01_k».proof.Proof.ConvPBody
public import proofs.«01_k».proof.Proof.Gen.ConvP

@[expose] public section

noncomputable section

open Idealize.ShloMosaic Idealize.ShloMosaic.TcCoe Idealize.SL.Sem

namespace Cert.ConvP.Same

variable {F : FTy → Type} [FloatOps F]

set_option maxHeartbeats 4000000 in
/-- The two programs' kernel bodies are one, -/
theorem bodies [Cert.ConvP.Facts] : @Cert.ConvP.defs₀ F _ _ = @Cert.ConvPIdeal.defs₀ F _ _ := by
  unfold Cert.ConvP.defs₀ Cert.ConvPIdeal.defs₀
  refine congrArg (Defs.onTc) ?_
  funext l x
  match l, x with
  | 0, (t, s) => rfl
  | ⟨_ + 1, h⟩, _ => exact absurd h (Nat.not_lt.2 (Nat.le_add_left _ _))

/-- so are their body tables, -/
theorem tables [Cert.ConvP.Facts] : @Cert.ConvP.defs F _ _ = @Cert.ConvPIdeal.defs F _ _ := by
  unfold Cert.ConvP.defs Cert.ConvPIdeal.defs
  rw [bodies]
  with_unfolding_all rfl

/-- and their @main. -/
theorem mains [Cert.ConvP.Facts] : @Cert.ConvP.main F _ = @Cert.ConvPIdeal.main F _ := by with_unfolding_all rfl

/-- The frame of the convolution of the prompt. -/
theorem quiescent [Cert.ConvP.Facts] : Cert.quiescent_ConvP := by
  intro m ρ _
  rw [tables, mains]
  exact Cert.ConvPIdeal.Body.frame (F := Bits) m ρ

end Cert.ConvP.Same

end
-- ==== Proof.lean ====
module

public import proofs.«01_k».proof.Defs
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InRefIdeal
public import proofs.«01_k».proof.Proof.Gen.InProjS
public import proofs.«01_k».proof.Proof.Gen.InProjS.Skeleton
public import proofs.«01_k».proof.Proof.Gen.InProjS.Launch
public import proofs.«01_k».proof.Proof.Gen.InProjS.Points
public import proofs.«01_k».proof.Proof.Gen.InProjS.Frame
public import proofs.«01_k».proof.Proof.Gen.InProjSIdeal
public import proofs.«01_k».proof.Proof.Gen.InProjSIdeal.Skeleton
public import proofs.«01_k».proof.Proof.Gen.InProjSIdeal.Launch
public import proofs.«01_k».proof.Proof.Gen.InProjSIdeal.Points
public import proofs.«01_k».proof.Proof.Gen.InProjSIdeal.Frame
public import proofs.«01_k».proof.Proof.Gen.InRefSIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutRefIdeal
public import proofs.«01_k».proof.Proof.Gen.InProjIdeal.Value
public import proofs.«01_k».proof.Proof.Gen.InProjSIdeal.Value
public import proofs.«01_k».proof.Proof.Gen.OutProjIdeal.Value
public import proofs.«01_k».proof.Proof.Gen.InRefIdeal.Run
public import proofs.«01_k».proof.Proof.Gen.InRefIdeal.Read
public import proofs.«01_k».proof.Proof.Gen.InRefSIdeal.Run
public import proofs.«01_k».proof.Proof.Gen.InRefSIdeal.Read
public import proofs.«01_k».proof.Proof.Gen.OutRefIdeal.Run
public import proofs.«01_k».proof.Proof.Gen.OutRefIdeal.Read
public import proofs.«01_k».proof.Proof.In
public import proofs.«01_k».proof.Proof.Out
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.Pre_ffn_finite
public import proofs.«01_k».proof.Proof.FfnBody
public import proofs.«01_k».proof.Proof.Ffn
public import proofs.«01_k».proof.Proof.FfnBits
public import proofs.«01_k».proof.Proof.Gen.FfnS
public import proofs.«01_k».proof.Proof.Gen.FfnS.Skeleton
public import proofs.«01_k».proof.Proof.Gen.FfnS.Launch
public import proofs.«01_k».proof.Proof.Gen.FfnS.Points
public import proofs.«01_k».proof.Proof.Gen.FfnS.Frame
public import proofs.«01_k».proof.Proof.Gen.FfnSIdeal
public import proofs.«01_k».proof.Proof.Gen.FfnSIdeal.Skeleton
public import proofs.«01_k».proof.Proof.Gen.FfnSIdeal.Launch
public import proofs.«01_k».proof.Proof.Gen.FfnSIdeal.Points
public import proofs.«01_k».proof.Proof.Gen.FfnSIdeal.Frame
public import proofs.«01_k».proof.Proof.Gen.FfnRefSIdeal
public import proofs.«01_k».proof.Proof.Gen.FfnRefSIdeal.Run
public import proofs.«01_k».proof.Proof.Gen.FfnRefSIdeal.Read
public import proofs.«01_k».proof.Proof.Gen.Pre_ffns_finite
public import proofs.«01_k».proof.Proof.FfnSBody
public import proofs.«01_k».proof.Proof.FfnS
public import proofs.«01_k».proof.Proof.FfnSBits
public import proofs.«01_k».proof.Proof.Gen.Conv
public import proofs.«01_k».proof.Proof.Gen.Conv.Skeleton
public import proofs.«01_k».proof.Proof.Gen.Conv.Launch
public import proofs.«01_k».proof.Proof.Gen.Conv.Points
public import proofs.«01_k».proof.Proof.Gen.Conv.Frame
public import proofs.«01_k».proof.Proof.Gen.ConvIdeal
public import proofs.«01_k».proof.Proof.Gen.ConvIdeal.Skeleton
public import proofs.«01_k».proof.Proof.Gen.ConvIdeal.Launch
public import proofs.«01_k».proof.Proof.Gen.ConvIdeal.Points
public import proofs.«01_k».proof.Proof.Gen.ConvIdeal.Frame
public import proofs.«01_k».proof.Proof.Gen.ConvIdeal.Value
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.Pre_conv_finite
public import proofs.«01_k».proof.Proof.ConvOut
public import proofs.«01_k».proof.Proof.Gen.ConvP
public import proofs.«01_k».proof.Proof.Gen.ConvP.Skeleton
public import proofs.«01_k».proof.Proof.Gen.ConvP.Launch
public import proofs.«01_k».proof.Proof.Gen.ConvP.Points
public import proofs.«01_k».proof.Proof.Gen.ConvP.Frame
public import proofs.«01_k».proof.Proof.Gen.ConvPIdeal
public import proofs.«01_k».proof.Proof.Gen.ConvPIdeal.Skeleton
public import proofs.«01_k».proof.Proof.Gen.ConvPIdeal.Launch
public import proofs.«01_k».proof.Proof.Gen.ConvPIdeal.Points
public import proofs.«01_k».proof.Proof.Gen.ConvPIdeal.Frame
public import proofs.«01_k».proof.Proof.Gen.ConvRefPIdeal
public import proofs.«01_k».proof.Proof.Gen.ConvRefPIdeal.Run
public import proofs.«01_k».proof.Proof.Gen.ConvRefPIdeal.Read
public import proofs.«01_k».proof.Proof.ConvPBody
public import proofs.«01_k».proof.Proof.ConvP
public import proofs.«01_k».proof.Proof.ConvPBits
public import Idealize.ShloMosaic.Lib.Claim
public import Idealize.ShloMosaic.Adequacy
public import Idealize.ShloMosaic.Init

@[expose] public section

noncomputable section

namespace Cert.Proof

open Idealize.ShloMosaic Idealize.ShloMosaic.TcCoe Idealize.SL.Sem

/-- The prompt's first projection equals its reference. -/
theorem in_algebraic [Cert.InProjIdeal.Facts] [Cert.InRefIdeal.Facts] : Cert.algebraic_InProjIdeal_InRefIdeal := by
  pair_intro
  · run_from Cert.InProjIdeal.Gen.run_main m g
  · run_from Cert.InRefIdeal.Value.run m' g'
    exact (Cert.InProjIdeal.Proj.final m c).symm

/-- The sample's first projection equals its reference, of both results. -/
theorem ins_algebraic [Cert.InProjSIdeal.Facts] [Cert.InRefSIdeal.Facts] : Cert.algebraic_InProjSIdeal_InRefSIdeal := by
  pair_intro
  · run_from Cert.InProjSIdeal.Gen.run_main m g
  · run_from Cert.InRefSIdeal.Value.run m' g'
    · exact (Cert.InProjSIdeal.Proj.final m c).symm
    · exact (Cert.InProjSIdeal.Proj.final_w m c).symm

/-- The mixing projection equals its reference. -/
theorem out_algebraic [Cert.OutProjIdeal.Facts] [Cert.OutRefIdeal.Facts] : Cert.algebraic_OutProjIdeal_OutRefIdeal := by
  pair_intro
  · run_from Cert.OutProjIdeal.Gen.run_main m g
  · run_from Cert.OutRefIdeal.Value.run m' g'
    obtain ⟨h0, h1, h2, h3, h4, h5⟩ := hagree c
    rw [Cert.OutRefIdeal.Read.val_main_v29_eq, h0, h1, h2, h3, h4, h5]
    exact (Cert.OutProjIdeal.Proj.final m c).symm

/-- The prompt's feed-forward call equals its reference, where `h` and the gate's weights are finite. -/
theorem ffn_algebraic [Cert.FfnIdeal.Facts] [Cert.FfnRefIdeal.Facts] [Cert.Pre_ffn_finite.Facts] :
    Cert.algebraic_FfnIdeal_FfnRefIdeal_pre_ffn_finite := by
  pair_intro
  · run_from Cert.FfnIdeal.Body.run_main m g
  · run_from Cert.FfnRefIdeal.Value.run m' g'
    obtain ⟨h0, h1, h2, h3, h4, h5⟩ := hagree c
    rw [Cert.FfnRefIdeal.Read.val_main_v32_eq, h0, h1, h2, h3, h4, h5]
    exact (Cert.FfnIdeal.Val.final m c (fun i => Cert.Layer.isReal_of_abs_lt _ (congrFun (hpre c).1 i))
      (fun i => Cert.Layer.isReal_of_abs_lt _ (congrFun (hpre c).2 i))).symm

/-- The sample's feed-forward call equals its reference, where `h` and the gate's weights are finite. -/
theorem ffns_algebraic [Cert.FfnSIdeal.Facts] [Cert.FfnRefSIdeal.Facts] [Cert.Pre_ffns_finite.Facts] :
    Cert.algebraic_FfnSIdeal_FfnRefSIdeal_pre_ffns_finite := by
  pair_intro
  · run_from Cert.FfnSIdeal.Body.run_main m g
  · run_from Cert.FfnRefSIdeal.Value.run m' g'
    obtain ⟨h0, h1, h2, h3, h4, h5⟩ := hagree c
    rw [Cert.FfnRefSIdeal.Read.val_main_v32_eq, h0, h1, h2, h3, h4, h5]
    exact (Cert.FfnSIdeal.Val.final m c (fun i => Cert.Layer.isReal_of_abs_lt _ (congrFun (hpre c).1 i))
      (fun i => Cert.Layer.isReal_of_abs_lt _ (congrFun (hpre c).2 i))).symm

/-- The sample's convolution call equals its reference, of both results, where its arguments are finite. -/
theorem conv_algebraic [Cert.ConvIdeal.Facts] [Cert.ConvRefIdeal.Facts] [Cert.Pre_conv_finite.Facts] :
    Cert.algebraic_ConvIdeal_ConvRefIdeal_pre_conv_finite := by
  pair_intro
  · run_from Cert.ConvIdeal.Gen.run_main m g
  · run_from Cert.ConvRefIdeal.Value.run m' g'
    all_goals obtain ⟨h0, h1, h2, h3, h4, h5⟩ := hagree c
    · rw [Cert.ConvRefIdeal.Read.val_main_v257_eq, show StableHlo.launchContents m' c (Proc.tc.devRef Cert.ConvRefIdeal.main_arg0) = _ from h0,
        show StableHlo.launchContents m' c (Proc.tc.devRef Cert.ConvRefIdeal.main_arg1) = _ from h1,
        show StableHlo.launchContents m' c (Proc.tc.devRef Cert.ConvRefIdeal.main_arg2) = _ from h2,
        show StableHlo.launchContents m' c (Proc.tc.devRef Cert.ConvRefIdeal.main_arg3) = _ from h3,
        show StableHlo.launchContents m' c (Proc.tc.devRef Cert.ConvRefIdeal.main_arg4) = _ from h4,
        show StableHlo.launchContents m' c (Proc.tc.devRef Cert.ConvRefIdeal.main_arg5) = _ from h5]
      exact (Cert.ConvIdeal.Conv.out_eq
        { h0 := fun i => Cert.Layer.isReal_of_abs_lt _ (congrFun (hpre c).1 i)
          h1 := fun i => Cert.Layer.isReal_of_abs_lt _ (congrFun (hpre c).2.1 i)
          h2 := fun i => Cert.Layer.isReal_of_abs_lt _ (congrFun (hpre c).2.2.1 i)
          h3 := fun i => Cert.Layer.isReal_of_abs_lt _ (congrFun (hpre c).2.2.2.1 i)
          h4 := fun i => Cert.Layer.isReal_of_abs_lt _ (congrFun (hpre c).2.2.2.2.1 i)
          h5 := fun i => Cert.Layer.isReal_of_abs_lt _ (congrFun (hpre c).2.2.2.2.2 i) }).symm
    · rw [Cert.ConvRefIdeal.Read.val_main_v258_eq, show StableHlo.launchContents m' c (Proc.tc.devRef Cert.ConvRefIdeal.main_arg0) = _ from h0, show StableHlo.launchContents m' c (Proc.tc.devRef Cert.ConvRefIdeal.main_arg1) = _ from h1]
      exact (Cert.ConvIdeal.Conv.tail_eq m c).symm

set_option maxRecDepth 16384 in
/-- The prompt's convolution call equals its reference, of the new history and the four rounded weights. -/
theorem convp_algebraic [Cert.ConvPIdeal.Facts] [Cert.ConvRefPIdeal.Facts] : Cert.algebraic_ConvPIdeal_ConvRefPIdeal := by
  pair_intro
  · run_from Cert.ConvPIdeal.Body.results m g
  · run_from Cert.ConvRefPIdeal.Value.run m' g'
    · exact (Cert.ConvPIdeal.Val.tail m c).symm
    · exact (Cert.ConvPIdeal.Val.cast0 m c).symm
    · exact (Cert.ConvPIdeal.Val.cast1 m c).symm
    · exact (Cert.ConvPIdeal.Val.cast2 m c).symm
    · exact (Cert.ConvPIdeal.Val.cast3 m c).symm

theorem claim : Cert.Claim := ⟨Cert.InProj.Gen.facts, Cert.InProjIdeal.Gen.facts, Cert.InRefIdeal.Gen.facts, Cert.InProjS.Gen.facts, Cert.InProjSIdeal.Gen.facts, Cert.InRefSIdeal.Gen.facts, Cert.OutProj.Gen.facts, Cert.OutProjIdeal.Gen.facts, Cert.OutRefIdeal.Gen.facts,
  Cert.Ffn.Gen.facts, Cert.FfnIdeal.Gen.facts, Cert.FfnRefIdeal.Gen.facts, Cert.FfnS.Gen.facts, Cert.FfnSIdeal.Gen.facts, Cert.FfnRefSIdeal.Gen.facts, Cert.Conv.Gen.facts, Cert.ConvIdeal.Gen.facts, Cert.ConvRefIdeal.Gen.facts, Cert.ConvP.Gen.facts, Cert.ConvPIdeal.Gen.facts, Cert.ConvRefPIdeal.Gen.facts, Cert.Pre_ffn_finite.Gen.facts, Cert.Pre_ffns_finite.Gen.facts, Cert.Pre_conv_finite.Gen.facts,
  fun m ρ _ => Cert.InProj.Gen.frame m ρ, fun m ρ _ => Cert.InProjIdeal.Gen.frame m ρ,
  fun m ρ _ => (θ_run _ _ _).mono (fun r h => ⟨fun c => (h c).2, sem_eq_zero_of_no_sems (by decide) r.2⟩) (Cert.InRefIdeal.Value.run (F := Ideal) m ρ),
  fun m ρ _ => Cert.InProjS.Gen.frame m ρ, fun m ρ _ => Cert.InProjSIdeal.Gen.frame m ρ,
  fun m ρ _ => (θ_run _ _ _).mono (fun r h => ⟨fun c => (h c).2.2, sem_eq_zero_of_no_sems (by decide) r.2⟩) (Cert.InRefSIdeal.Value.run (F := Ideal) m ρ),
  fun m ρ _ => Cert.OutProj.Gen.frame m ρ, fun m ρ _ => Cert.OutProjIdeal.Gen.frame m ρ,
  fun m ρ _ => (θ_run _ _ _).mono (fun r h => ⟨fun c => (h c).2, sem_eq_zero_of_no_sems (by decide) r.2⟩) (Cert.OutRefIdeal.Value.run (F := Ideal) m ρ),
  Cert.Ffn.Same.quiescent, fun m ρ _ => Cert.FfnIdeal.Body.frame m ρ, fun m ρ _ => Cert.FfnIdeal.Body.frame m ρ,
  fun m ρ _ => (θ_run _ _ _).mono (fun r h => ⟨fun c => (h c).2, sem_eq_zero_of_no_sems (by decide) r.2⟩) (Cert.FfnRefIdeal.Value.run (F := Ideal) m ρ),
  fun m ρ _ => (θ_run _ _ _).mono (fun r h => ⟨fun c => (h c).2, sem_eq_zero_of_no_sems (by decide) r.2⟩) (Cert.FfnRefIdeal.Value.run (F := Ideal) m ρ),
  Cert.FfnS.Same.quiescent, fun m ρ _ => Cert.FfnSIdeal.Body.frame m ρ, fun m ρ _ => Cert.FfnSIdeal.Body.frame m ρ,
  fun m ρ _ => (θ_run _ _ _).mono (fun r h => ⟨fun c => (h c).2, sem_eq_zero_of_no_sems (by decide) r.2⟩) (Cert.FfnRefSIdeal.Value.run (F := Ideal) m ρ),
  fun m ρ _ => (θ_run _ _ _).mono (fun r h => ⟨fun c => (h c).2, sem_eq_zero_of_no_sems (by decide) r.2⟩) (Cert.FfnRefSIdeal.Value.run (F := Ideal) m ρ),
  fun m ρ _ => Cert.Conv.Gen.frame m ρ, fun m ρ _ => Cert.ConvIdeal.Gen.frame m ρ, fun m ρ _ => Cert.ConvIdeal.Gen.frame m ρ,
  fun m ρ _ => (θ_run _ _ _).mono (fun r h => ⟨fun c => (h c).2.2, sem_eq_zero_of_no_sems (by decide) r.2⟩) (Cert.ConvRefIdeal.Value.run (F := Ideal) m ρ),
  fun m ρ _ => (θ_run _ _ _).mono (fun r h => ⟨fun c => (h c).2.2, sem_eq_zero_of_no_sems (by decide) r.2⟩) (Cert.ConvRefIdeal.Value.run (F := Ideal) m ρ),
  Cert.ConvP.Same.quiescent, fun m ρ _ => Cert.ConvPIdeal.Body.frame m ρ,
  fun m ρ _ => (θ_run _ _ _).mono (fun r h => ⟨fun c => (h c).2.2.2.2.2, sem_eq_zero_of_no_sems (by decide) r.2⟩) (Cert.ConvRefPIdeal.Value.run (F := Ideal) m ρ),
  trivial, in_algebraic, trivial, ins_algebraic, trivial, out_algebraic, trivial, ffn_algebraic, trivial, ffns_algebraic, trivial, conv_algebraic, trivial, convp_algebraic⟩

end Cert.Proof

end
